-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1 : Shape := ⟨1, ![1]⟩
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x128 : Shape := ⟨2, ![1, 128]⟩
abbrev S1x64 : Shape := ⟨2, ![1, 64]⟩
abbrev S100000x64 : Shape := ⟨2, ![100000, 64]⟩
abbrev S2x2000x128 : Shape := ⟨3, ![2, 2000, 128]⟩
abbrev S2 : Shape := ⟨1, ![2]⟩
abbrev S2x1000x2x64 : Shape := ⟨4, ![2, 1000, 2, 64]⟩
abbrev S_ : Shape := ⟨0, ![]⟩
abbrev S1x2000x128 : Shape := ⟨3, ![1, 2000, 128]⟩
abbrev S2000x128 : Shape := ⟨2, ![2000, 128]⟩
abbrev S1000x128 : Shape := ⟨2, ![1000, 128]⟩
abbrev S1000x64 : Shape := ⟨2, ![1000, 64]⟩
abbrev S1x1000x2x64 : Shape := ⟨4, ![1, 1000, 2, 64]⟩
abbrev S1000x2x64 : Shape := ⟨3, ![1000, 2, 64]⟩
abbrev S1000x1x64 : Shape := ⟨3, ![1000, 1, 64]⟩
abbrev S50000x2x64 : Shape := ⟨3, ![50000, 2, 64]⟩

abbrev nBuf : Space → Nat
  | .hbm => 9
  | .vmem => 6
  | .smem => 0
  | _ => 0

abbrev bufTy : (tb : Table) → Fin (tcTables nBuf tb) → BufTy
  | .hbm, ⟨0, _⟩ => ⟨S1, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S100000x64, .f32⟩
  | .local _ .vmem, ⟨0, _⟩ => ⟨S128x128, .f32⟩
  | .local _ .vmem, ⟨1, _⟩ => ⟨S1x128, .f32⟩
  | .local _ .vmem, ⟨2, _⟩ => ⟨S64x128, .f32⟩
  | .local _ .vmem, ⟨3, _⟩ => ⟨S1x64, .f32⟩
  | .local _ .vmem, ⟨4, _⟩ => ⟨S2x2000x128, .f32⟩
  | .local _ .vmem, ⟨5, _⟩ => ⟨S2x1000x2x64, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scoped0 : Ref sig .tc := ⟨.vmem, 4, rfl⟩
abbrev cc0_scoped2 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_19_r0 : BitVec 32 := 0#32
  let c2_i32_r0 : BitVec 32 := 2#32
  let v21_r0 : BitVec 32 := Scalar.remui c0_i32_19_r0 c2_i32_r0
  ![v21_r0.toNat]
def k0_off2 : Fin 3 → Nat :=
  let c0_i32_19_r0 : BitVec 32 := 0#32
  let c2_i32_r0 : BitVec 32 := 2#32
  let v21_r0 : BitVec 32 := Scalar.remui c0_i32_19_r0 c2_i32_r0
  let c0_i32_20_r0 : BitVec 32 := 0#32
  let c0_i32_21_r0 : BitVec 32 := 0#32
  ![v21_r0.toNat, 0, 0]
@[reducible] def k0_t1_loop : Scf.Loop 32 :=
  let c0_i32_30_r0 : BitVec 32 := 0#32
  let c50_i32_31_r0 : BitVec 32 := 50#32
  let v28_r0 : BitVec 32 := Scalar.addi c0_i32_30_r0 c50_i32_31_r0
  let c1_i32_32_r0 : BitVec 32 := 1#32
  ⟨c0_i32_30_r0, v28_r0, c1_i32_32_r0⟩
def k0_off3 (arg7_r0 : BitVec 32) : Fin 1 → Nat :=
  let c2_i32_132_r0 : BitVec 32 := 2#32
  let v170_r0 : BitVec 32 := Scalar.remui arg7_r0 c2_i32_132_r0
  ![v170_r0.toNat]
def k0_cond1 (k0_t1 : Fin k0_t1_loop.trips) (arg11_r0 : BitVec 32) : BitVec 1 :=
  let c0_i32_62_r0 : BitVec 32 := 0#32
  let v60_r0 : BitVec 32 := Scalar.addi arg11_r0 c0_i32_62_r0
  let true_69_r0 : BitVec 1 := 1#1
  let c1_i32_68_r0 : BitVec 32 := 1#32
  let v66_r0 : BitVec 32 := Scalar.addi arg11_r0 c1_i32_68_r0
  let v67_r0 : BitVec 32 := Scalar.select true_69_r0 v66_r0 arg11_r0
  let c50_i32_70_r0 : BitVec 32 := 50#32
  let v68_r0 : BitVec 1 := Scalar.cmpi .eq v67_r0 c50_i32_70_r0
  let c0_i32_71_r0 : BitVec 32 := 0#32
  let v69_r0 : BitVec 32 := Scalar.select v68_r0 c0_i32_71_r0 v67_r0
  let c0_i32_72_r0 : BitVec 32 := 0#32
  let v70_r0 : BitVec 32 := Scalar.addi v69_r0 c0_i32_72_r0
  let v76_r0 : BitVec 1 := Scalar.cmpi .ne v60_r0 v70_r0
  let c0_i32_30_r0 : BitVec 32 := 0#32
  let c1_i32_32_r0 : BitVec 32 := 1#32
  let arg6_r0 : BitVec 32 := Scf.iv c0_i32_30_r0 c1_i32_32_r0 k0_t1
  let c49_i32_78_r0 : BitVec 32 := 49#32
  let v77_r0 : BitVec 1 := Scalar.cmpi .sge arg6_r0 c49_i32_78_r0
  let true_79_r0 : BitVec 1 := 1#1
  let v78_r0 : BitVec 1 := Scalar.xori v77_r0 true_79_r0
  let v79_r0 : BitVec 1 := Scalar.andi v76_r0 v78_r0
  let true_80_r0 : BitVec 1 := 1#1
  let v80_r0 : BitVec 1 := Scalar.andi v79_r0 true_80_r0
  let v81_r0 : BitVec 32 := Scalar.extui v80_r0
  let c0_i32_81_r0 : BitVec 32 := 0#32
  let v82_r0 : BitVec 1 := Scalar.cmpi .ne v81_r0 c0_i32_81_r0
  v82_r0

def k0_off4 (arg7_r0 : BitVec 32) : Fin 3 → Nat :=
  let c2_i32_132_r0 : BitVec 32 := 2#32
  let v170_r0 : BitVec 32 := Scalar.remui arg7_r0 c2_i32_132_r0
  let c0_i32_133_r0 : BitVec 32 := 0#32
  let c0_i32_134_r0 : BitVec 32 := 0#32
  ![v170_r0.toNat, 0, 0]
def k0_off5 (arg11_r0 : BitVec 32) : Fin 2 → Nat :=
  let c2000_i32_r0 : BitVec 32 := 2000#32
  let true_69_r0 : BitVec 1 := 1#1
  let c1_i32_68_r0 : BitVec 32 := 1#32
  let v66_r0 : BitVec 32 := Scalar.addi arg11_r0 c1_i32_68_r0
  let v67_r0 : BitVec 32 := Scalar.select true_69_r0 v66_r0 arg11_r0
  let c50_i32_70_r0 : BitVec 32 := 50#32
  let v68_r0 : BitVec 1 := Scalar.cmpi .eq v67_r0 c50_i32_70_r0
  let c0_i32_71_r0 : BitVec 32 := 0#32
  let v69_r0 : BitVec 32 := Scalar.select v68_r0 c0_i32_71_r0 v67_r0
  let c0_i32_72_r0 : BitVec 32 := 0#32
  let v70_r0 : BitVec 32 := Scalar.addi v69_r0 c0_i32_72_r0
  let v171_r0 : BitVec 32 := Scalar.muli c2000_i32_r0 v70_r0
  let c0_i32_135_r0 : BitVec 32 := 0#32
  ![v171_r0.toNat, 0]
def k0_off6 (arg8_r0 : BitVec 32) : Fin 1 → Nat :=
  let c2_i32_132_r0 : BitVec 32 := 2#32
  let v171_r0 : BitVec 32 := Scalar.remui arg8_r0 c2_i32_132_r0
  ![v171_r0.toNat]
def k0_cond2 (k0_t1 : Fin k0_t1_loop.trips) (arg11_r0 : BitVec 32) : BitVec 1 :=
  let c0_i32_62_r0 : BitVec 32 := 0#32
  let v60_r0 : BitVec 32 := Scalar.addi arg11_r0 c0_i32_62_r0
  let true_64_r0 : BitVec 1 := 1#1
  let c1_i32_63_r0 : BitVec 32 := 1#32
  let v61_r0 : BitVec 32 := Scalar.subi arg11_r0 c1_i32_63_r0
  let v62_r0 : BitVec 32 := Scalar.select true_64_r0 v61_r0 arg11_r0
  let c_m1_i32_65_r0 : BitVec 32 := 4294967295#32
  let v63_r0 : BitVec 1 := Scalar.cmpi .eq v62_r0 c_m1_i32_65_r0
  let c49_i32_66_r0 : BitVec 32 := 49#32
  let v64_r0 : BitVec 32 := Scalar.select v63_r0 c49_i32_66_r0 v62_r0
  let c0_i32_67_r0 : BitVec 32 := 0#32
  let v65_r0 : BitVec 32 := Scalar.addi v64_r0 c0_i32_67_r0
  let v90_r0 : BitVec 1 := Scalar.cmpi .ne v60_r0 v65_r0
  let c0_i32_30_r0 : BitVec 32 := 0#32
  let c1_i32_32_r0 : BitVec 32 := 1#32
  let arg6_r0 : BitVec 32 := Scf.iv c0_i32_30_r0 c1_i32_32_r0 k0_t1
  let c0_i32_60_r0 : BitVec 32 := 0#32
  let v58_r0 : BitVec 1 := Scalar.cmpi .eq arg6_r0 c0_i32_60_r0
  let v91_r0 : BitVec 1 := Scalar.ori v90_r0 v58_r0
  let c0_i32_86_r0 : BitVec 32 := 0#32
  let v92_r0 : BitVec 1 := Scalar.cmpi .sge arg6_r0 c0_i32_86_r0
  let v93_r0 : BitVec 1 := Scalar.andi v91_r0 v92_r0
  let v94_r0 : BitVec 32 := Scalar.extui v93_r0
  let c0_i32_87_r0 : BitVec 32 := 0#32
  let v95_r0 : BitVec 1 := Scalar.cmpi .ne v94_r0 c0_i32_87_r0
  v95_r0

def k0_off7 (arg8_r0 : BitVec 32) : Fin 3 → Nat :=
  let c2_i32_132_r0 : BitVec 32 := 2#32
  let v171_r0 : BitVec 32 := Scalar.remui arg8_r0 c2_i32_132_r0
  let c0_i32_133_r0 : BitVec 32 := 0#32
  let c0_i32_134_r0 : BitVec 32 := 0#32
  ![v171_r0.toNat, 0, 0]
def k0_off8 (arg11_r0 : BitVec 32) : Fin 2 → Nat :=
  let c2000_i32_r0 : BitVec 32 := 2000#32
  let c0_i32_62_r0 : BitVec 32 := 0#32
  let v60_r0 : BitVec 32 := Scalar.addi arg11_r0 c0_i32_62_r0
  let v170_r0 : BitVec 32 := Scalar.muli c2000_i32_r0 v60_r0
  let c0_i32_135_r0 : BitVec 32 := 0#32
  ![v170_r0.toNat, 0]
def k0_off9 (arg8_r0 : BitVec 32) : Fin 3 → Nat :=
  let c2_i32_90_r0 : BitVec 32 := 2#32
  let v102_r0 : BitVec 32 := Scalar.remui arg8_r0 c2_i32_90_r0
  let c0_i32_92_r0 : BitVec 32 := 0#32
  let c0_i32_93_r0 : BitVec 32 := 0#32
  ![v102_r0.toNat, 0, 0]

def k0_chk2 (arg8_r0 : BitVec 32) : Prop :=
  (∀ a, (k0_off9 arg8_r0) a + S1x2000x128.size a ≤ S2x2000x128.size a)
theorem k0_off9_inb : ∀ (arg8_r0 : BitVec 32) (k0_hw2 : k0_chk2 arg8_r0), ∀ a, (k0_off9 arg8_r0) a + S1x2000x128.size a ≤ S2x2000x128.size a := fun arg8_r0 k0_hw2 => k0_hw2

def k0_off10 (arg9_r0 : BitVec 32) : Fin 4 → Nat :=
  let c2_i32_91_r0 : BitVec 32 := 2#32
  let v103_r0 : BitVec 32 := Scalar.remui arg9_r0 c2_i32_91_r0
  let c0_i32_103_r0 : BitVec 32 := 0#32
  let c0_i32_104_r0 : BitVec 32 := 0#32
  let c0_i32_105_r0 : BitVec 32 := 0#32
  ![v103_r0.toNat, 0, 0, 0]

def k0_chk3 (arg9_r0 : BitVec 32) : Prop :=
  (∀ a, (k0_off10 arg9_r0) a + S1x1000x2x64.size a ≤ S2x1000x2x64.size a)
theorem k0_off10_inb : ∀ (arg9_r0 : BitVec 32) (k0_hw3 : k0_chk3 arg9_r0), ∀ a, (k0_off10 arg9_r0) a + S1x1000x2x64.size a ≤ S2x1000x2x64.size a := fun arg9_r0 k0_hw3 => k0_hw3

def k0_off11 (arg9_r0 : BitVec 32) : Fin 1 → Nat :=
  let c2_i32_132_r0 : BitVec 32 := 2#32
  let v170_r0 : BitVec 32 := Scalar.remui arg9_r0 c2_i32_132_r0
  ![v170_r0.toNat]
def k0_cond5 (k0_t1 : Fin k0_t1_loop.trips) (arg11_r0 : BitVec 32) : BitVec 1 :=
  let c0_i32_62_r0 : BitVec 32 := 0#32
  let v60_r0 : BitVec 32 := Scalar.addi arg11_r0 c0_i32_62_r0
  let true_69_r0 : BitVec 1 := 1#1
  let c1_i32_68_r0 : BitVec 32 := 1#32
  let v66_r0 : BitVec 32 := Scalar.addi arg11_r0 c1_i32_68_r0
  let v67_r0 : BitVec 32 := Scalar.select true_69_r0 v66_r0 arg11_r0
  let c50_i32_70_r0 : BitVec 32 := 50#32
  let v68_r0 : BitVec 1 := Scalar.cmpi .eq v67_r0 c50_i32_70_r0
  let c0_i32_71_r0 : BitVec 32 := 0#32
  let v69_r0 : BitVec 32 := Scalar.select v68_r0 c0_i32_71_r0 v67_r0
  let c0_i32_72_r0 : BitVec 32 := 0#32
  let v70_r0 : BitVec 32 := Scalar.addi v69_r0 c0_i32_72_r0
  let v141_r0 : BitVec 1 := Scalar.cmpi .ne v60_r0 v70_r0
  let c0_i32_30_r0 : BitVec 32 := 0#32
  let c1_i32_32_r0 : BitVec 32 := 1#32
  let arg6_r0 : BitVec 32 := Scf.iv c0_i32_30_r0 c1_i32_32_r0 k0_t1
  let c49_i32_61_r0 : BitVec 32 := 49#32
  let v59_r0 : BitVec 1 := Scalar.cmpi .eq arg6_r0 c49_i32_61_r0
  let v142_r0 : BitVec 1 := Scalar.ori v141_r0 v59_r0
  let v143_r0 : BitVec 32 := Scalar.extui v142_r0
  let c0_i32_117_r0 : BitVec 32 := 0#32
  let v144_r0 : BitVec 1 := Scalar.cmpi .ne v143_r0 c0_i32_117_r0
  v144_r0

def k0_off12 (arg11_r0 : BitVec 32) : Fin 3 → Nat :=
  let c1000_i32_133_r0 : BitVec 32 := 1000#32
  let c0_i32_62_r0 : BitVec 32 := 0#32
  let v60_r0 : BitVec 32 := Scalar.addi arg11_r0 c0_i32_62_r0
  let v171_r0 : BitVec 32 := Scalar.muli c1000_i32_133_r0 v60_r0
  let c0_i32_134_r0 : BitVec 32 := 0#32
  let c0_i32_135_r0 : BitVec 32 := 0#32
  ![v171_r0.toNat, 0, 0]
def k0_off13 (arg9_r0 : BitVec 32) : Fin 4 → Nat :=
  let c2_i32_132_r0 : BitVec 32 := 2#32
  let v170_r0 : BitVec 32 := Scalar.remui arg9_r0 c2_i32_132_r0
  let c0_i32_136_r0 : BitVec 32 := 0#32
  let c0_i32_137_r0 : BitVec 32 := 0#32
  let c0_i32_138_r0 : BitVec 32 := 0#32
  ![v170_r0.toNat, 0, 0, 0]
def k0_off14 (arg10_r0 : BitVec 32) : Fin 1 → Nat :=
  let c2_i32_132_r0 : BitVec 32 := 2#32
  let v170_r0 : BitVec 32 := Scalar.remui arg10_r0 c2_i32_132_r0
  ![v170_r0.toNat]
def k0_cond7 (k0_t1 : Fin k0_t1_loop.trips) (arg11_r0 : BitVec 32) : BitVec 1 :=
  let c0_i32_62_r0 : BitVec 32 := 0#32
  let v60_r0 : BitVec 32 := Scalar.addi arg11_r0 c0_i32_62_r0
  let true_64_r0 : BitVec 1 := 1#1
  let c1_i32_63_r0 : BitVec 32 := 1#32
  let v61_r0 : BitVec 32 := Scalar.subi arg11_r0 c1_i32_63_r0
  let v62_r0 : BitVec 32 := Scalar.select true_64_r0 v61_r0 arg11_r0
  let c_m1_i32_65_r0 : BitVec 32 := 4294967295#32
  let v63_r0 : BitVec 1 := Scalar.cmpi .eq v62_r0 c_m1_i32_65_r0
  let c49_i32_66_r0 : BitVec 32 := 49#32
  let v64_r0 : BitVec 32 := Scalar.select v63_r0 c49_i32_66_r0 v62_r0
  let c0_i32_67_r0 : BitVec 32 := 0#32
  let v65_r0 : BitVec 32 := Scalar.addi v64_r0 c0_i32_67_r0
  let v154_r0 : BitVec 1 := Scalar.cmpi .ne v60_r0 v65_r0
  let c0_i32_30_r0 : BitVec 32 := 0#32
  let c1_i32_32_r0 : BitVec 32 := 1#32
  let arg6_r0 : BitVec 32 := Scf.iv c0_i32_30_r0 c1_i32_32_r0 k0_t1
  let c0_i32_60_r0 : BitVec 32 := 0#32
  let v58_r0 : BitVec 1 := Scalar.cmpi .eq arg6_r0 c0_i32_60_r0
  let true_123_r0 : BitVec 1 := 1#1
  let v155_r0 : BitVec 1 := Scalar.xori v58_r0 true_123_r0
  let v156_r0 : BitVec 1 := Scalar.andi v154_r0 v155_r0
  let v157_r0 : BitVec 32 := Scalar.extui v156_r0
  let c0_i32_124_r0 : BitVec 32 := 0#32
  let v158_r0 : BitVec 1 := Scalar.cmpi .ne v157_r0 c0_i32_124_r0
  v158_r0

def k0_off15 (arg11_r0 : BitVec 32) : Fin 3 → Nat :=
  let c1000_i32_133_r0 : BitVec 32 := 1000#32
  let true_64_r0 : BitVec 1 := 1#1
  let c1_i32_63_r0 : BitVec 32 := 1#32
  let v61_r0 : BitVec 32 := Scalar.subi arg11_r0 c1_i32_63_r0
  let v62_r0 : BitVec 32 := Scalar.select true_64_r0 v61_r0 arg11_r0
  let c_m1_i32_65_r0 : BitVec 32 := 4294967295#32
  let v63_r0 : BitVec 1 := Scalar.cmpi .eq v62_r0 c_m1_i32_65_r0
  let c49_i32_66_r0 : BitVec 32 := 49#32
  let v64_r0 : BitVec 32 := Scalar.select v63_r0 c49_i32_66_r0 v62_r0
  let c0_i32_67_r0 : BitVec 32 := 0#32
  let v65_r0 : BitVec 32 := Scalar.addi v64_r0 c0_i32_67_r0
  let v171_r0 : BitVec 32 := Scalar.muli c1000_i32_133_r0 v65_r0
  let c0_i32_134_r0 : BitVec 32 := 0#32
  let c0_i32_135_r0 : BitVec 32 := 0#32
  ![v171_r0.toNat, 0, 0]
def k0_off16 (arg10_r0 : BitVec 32) : Fin 4 → Nat :=
  let c2_i32_132_r0 : BitVec 32 := 2#32
  let v170_r0 : BitVec 32 := Scalar.remui arg10_r0 c2_i32_132_r0
  let c0_i32_136_r0 : BitVec 32 := 0#32
  let c0_i32_137_r0 : BitVec 32 := 0#32
  let c0_i32_138_r0 : BitVec 32 := 0#32
  ![v170_r0.toNat, 0, 0, 0]

def k0_chk1 (k0_t1 : Fin k0_t1_loop.trips) (arg7_r0 : BitVec 32) (arg8_r0 : BitVec 32) (arg9_r0 : BitVec 32) (arg10_r0 : BitVec 32) (arg11_r0 : BitVec 32) : Prop :=
  (∀ (k0_h1 : k0_cond1 k0_t1 arg11_r0 = 1#1), ∀ a, (k0_off3 arg7_r0) a + S1.size a ≤ S2.size a) ∧
  (∀ (k0_h1 : k0_cond1 k0_t1 arg11_r0 = 1#1), ∀ a, (k0_off4 arg7_r0) a + S1x2000x128.size a ≤ S2x2000x128.size a) ∧
  (∀ (k0_h1 : k0_cond1 k0_t1 arg11_r0 = 1#1), ∀ a, (k0_off5 arg11_r0) a + S2000x128.size a ≤ S100000x128.size a) ∧
  (∀ (k0_h2 : k0_cond2 k0_t1 arg11_r0 = 1#1), ∀ a, (k0_off6 arg8_r0) a + S1.size a ≤ S2.size a) ∧
  (∀ (k0_h2 : k0_cond2 k0_t1 arg11_r0 = 1#1), ∀ a, (k0_off7 arg8_r0) a + S1x2000x128.size a ≤ S2x2000x128.size a) ∧
  (∀ (k0_h2 : k0_cond2 k0_t1 arg11_r0 = 1#1), ∀ a, (k0_off8 arg11_r0) a + S2000x128.size a ≤ S100000x128.size a) ∧
  (∀ (k0_h5 : k0_cond5 k0_t1 arg11_r0 = 1#1), ∀ a, (k0_off11 arg9_r0) a + S1.size a ≤ S2.size a) ∧
  (∀ (k0_h5 : k0_cond5 k0_t1 arg11_r0 = 1#1), ∀ a, (k0_off12 arg11_r0) a + S1000x2x64.size a ≤ S50000x2x64.size a) ∧
  (∀ (k0_h5 : k0_cond5 k0_t1 arg11_r0 = 1#1), ∀ a, (k0_off13 arg9_r0) a + S1x1000x2x64.size a ≤ S2x1000x2x64.size a) ∧
  (∀ (k0_h7 : k0_cond7 k0_t1 arg11_r0 = 1#1), ∀ a, (k0_off14 arg10_r0) a + S1.size a ≤ S2.size a) ∧
  (∀ (k0_h7 : k0_cond7 k0_t1 arg11_r0 = 1#1), ∀ a, (k0_off15 arg11_r0) a + S1000x2x64.size a ≤ S50000x2x64.size a) ∧
  (∀ (k0_h7 : k0_cond7 k0_t1 arg11_r0 = 1#1), ∀ a, (k0_off16 arg10_r0) a + S1x1000x2x64.size a ≤ S2x1000x2x64.size a)
theorem k0_off3_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h1 : k0_cond1 k0_t1 arg11_r0 = 1#1), ∀ a, (k0_off3 arg7_r0) a + S1.size a ≤ S2.size a := fun k0_t1 arg7_r0 arg8_r0 arg9_r0 arg10_r0 arg11_r0 k0_hw1 k0_h1 => k0_hw1.1 k0_h1
theorem k0_off4_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h1 : k0_cond1 k0_t1 arg11_r0 = 1#1), ∀ a, (k0_off4 arg7_r0) a + S1x2000x128.size a ≤ S2x2000x128.size a := fun k0_t1 arg7_r0 arg8_r0 arg9_r0 arg10_r0 arg11_r0 k0_hw1 k0_h1 => k0_hw1.2.1 k0_h1
theorem k0_off5_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h1 : k0_cond1 k0_t1 arg11_r0 = 1#1), ∀ a, (k0_off5 arg11_r0) a + S2000x128.size a ≤ S100000x128.size a := fun k0_t1 arg7_r0 arg8_r0 arg9_r0 arg10_r0 arg11_r0 k0_hw1 k0_h1 => k0_hw1.2.2.1 k0_h1
theorem k0_off6_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h2 : k0_cond2 k0_t1 arg11_r0 = 1#1), ∀ a, (k0_off6 arg8_r0) a + S1.size a ≤ S2.size a := fun k0_t1 arg7_r0 arg8_r0 arg9_r0 arg10_r0 arg11_r0 k0_hw1 k0_h2 => k0_hw1.2.2.2.1 k0_h2
theorem k0_off7_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h2 : k0_cond2 k0_t1 arg11_r0 = 1#1), ∀ a, (k0_off7 arg8_r0) a + S1x2000x128.size a ≤ S2x2000x128.size a := fun k0_t1 arg7_r0 arg8_r0 arg9_r0 arg10_r0 arg11_r0 k0_hw1 k0_h2 => k0_hw1.2.2.2.2.1 k0_h2
theorem k0_off8_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h2 : k0_cond2 k0_t1 arg11_r0 = 1#1), ∀ a, (k0_off8 arg11_r0) a + S2000x128.size a ≤ S100000x128.size a := fun k0_t1 arg7_r0 arg8_r0 arg9_r0 arg10_r0 arg11_r0 k0_hw1 k0_h2 => k0_hw1.2.2.2.2.2.1 k0_h2
theorem k0_off11_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h5 : k0_cond5 k0_t1 arg11_r0 = 1#1), ∀ a, (k0_off11 arg9_r0) a + S1.size a ≤ S2.size a := fun k0_t1 arg7_r0 arg8_r0 arg9_r0 arg10_r0 arg11_r0 k0_hw1 k0_h5 => k0_hw1.2.2.2.2.2.2.1 k0_h5
theorem k0_off12_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h5 : k0_cond5 k0_t1 arg11_r0 = 1#1), ∀ a, (k0_off12 arg11_r0) a + S1000x2x64.size a ≤ S50000x2x64.size a := fun k0_t1 arg7_r0 arg8_r0 arg9_r0 arg10_r0 arg11_r0 k0_hw1 k0_h5 => k0_hw1.2.2.2.2.2.2.2.1 k0_h5
theorem k0_off13_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h5 : k0_cond5 k0_t1 arg11_r0 = 1#1), ∀ a, (k0_off13 arg9_r0) a + S1x1000x2x64.size a ≤ S2x1000x2x64.size a := fun k0_t1 arg7_r0 arg8_r0 arg9_r0 arg10_r0 arg11_r0 k0_hw1 k0_h5 => k0_hw1.2.2.2.2.2.2.2.2.1 k0_h5
theorem k0_off14_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off14 arg10_r0) a + S1.size a ≤ S2.size a := fun k0_t1 arg7_r0 arg8_r0 arg9_r0 arg10_r0 arg11_r0 k0_hw1 k0_h7 => k0_hw1.2.2.2.2.2.2.2.2.2.1 k0_h7
theorem k0_off15_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off15 arg11_r0) a + S1000x2x64.size a ≤ S50000x2x64.size a := fun k0_t1 arg7_r0 arg8_r0 arg9_r0 arg10_r0 arg11_r0 k0_hw1 k0_h7 => k0_hw1.2.2.2.2.2.2.2.2.2.2.1 k0_h7
theorem k0_off16_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off16 arg10_r0) a + S1x1000x2x64.size a ≤ S2x1000x2x64.size a := fun k0_t1 arg7_r0 arg8_r0 arg9_r0 arg10_r0 arg11_r0 k0_hw1 k0_h7 => k0_hw1.2.2.2.2.2.2.2.2.2.2.2 k0_h7

def k0_off17 (v29_3_r0 : BitVec 32) : Fin 1 → Nat :=
  let c2_i32_54_r0 : BitVec 32 := 2#32
  let v50_r0 : BitVec 32 := Scalar.remui v29_3_r0 c2_i32_54_r0
  ![v50_r0.toNat]

def k0_off18 (v29_4_r0 : BitVec 32) : Fin 3 → Nat :=
  let c1000_i32_r0 : BitVec 32 := 1000#32
  let true_35_r0 : BitVec 1 := 1#1
  let c1_i32_34_r0 : BitVec 32 := 1#32
  let v30_r0 : BitVec 32 := Scalar.subi v29_4_r0 c1_i32_34_r0
  let v31_r0 : BitVec 32 := Scalar.select true_35_r0 v30_r0 v29_4_r0
  let c_m1_i32_36_r0 : BitVec 32 := 4294967295#32
  let v32_r0 : BitVec 1 := Scalar.cmpi .eq v31_r0 c_m1_i32_36_r0
  let c49_i32_37_r0 : BitVec 32 := 49#32
  let v33_r0 : BitVec 32 := Scalar.select v32_r0 c49_i32_37_r0 v31_r0
  let c0_i32_38_r0 : BitVec 32 := 0#32
  let v34_r0 : BitVec 32 := Scalar.addi v33_r0 c0_i32_38_r0
  let v51_r0 : BitVec 32 := Scalar.muli c1000_i32_r0 v34_r0
  let c0_i32_55_r0 : BitVec 32 := 0#32
  let c0_i32_56_r0 : BitVec 32 := 0#32
  ![v51_r0.toNat, 0, 0]

def k0_chk5 (v29_4_r0 : BitVec 32) : Prop :=
  (∀ a, (k0_off18 v29_4_r0) a + S1000x2x64.size a ≤ S50000x2x64.size a)
theorem k0_off18_inb : ∀ (v29_4_r0 : BitVec 32) (k0_hw5 : k0_chk5 v29_4_r0), ∀ a, (k0_off18 v29_4_r0) a + S1000x2x64.size a ≤ S50000x2x64.size a := fun v29_4_r0 k0_hw5 => k0_hw5

def k0_off19 (v29_3_r0 : BitVec 32) : Fin 4 → Nat :=
  let c2_i32_54_r0 : BitVec 32 := 2#32
  let v50_r0 : BitVec 32 := Scalar.remui v29_3_r0 c2_i32_54_r0
  let c0_i32_57_r0 : BitVec 32 := 0#32
  let c0_i32_58_r0 : BitVec 32 := 0#32
  let c0_i32_59_r0 : BitVec 32 := 0#32
  ![v50_r0.toNat, 0, 0, 0]

def k0_chk4 (v29_3_r0 : BitVec 32) : Prop :=
  (∀ a, (k0_off17 v29_3_r0) a + S1.size a ≤ S2.size a) ∧
  (∀ a, (k0_off19 v29_3_r0) a + S1x1000x2x64.size a ≤ S2x1000x2x64.size a)
theorem k0_off17_inb : ∀ (v29_3_r0 : BitVec 32) (k0_hw4 : k0_chk4 v29_3_r0), ∀ a, (k0_off17 v29_3_r0) a + S1.size a ≤ S2.size a := fun v29_3_r0 k0_hw4 => k0_hw4.1
theorem k0_off19_inb : ∀ (v29_3_r0 : BitVec 32) (k0_hw4 : k0_chk4 v29_3_r0), ∀ a, (k0_off19 v29_3_r0) a + S1x1000x2x64.size a ≤ S2x1000x2x64.size a := fun v29_3_r0 k0_hw4 => k0_hw4.2

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1 : Shape := ⟨1, ![1]⟩
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x128 : Shape := ⟨2, ![1, 128]⟩
abbrev S_ : Shape := ⟨0, ![]⟩
abbrev S128x64 : Shape := ⟨2, ![128, 64]⟩
abbrev S100000x64 : Shape := ⟨2, ![100000, 64]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S1, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S128x128, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S100000x128, .f32⟩
  | .hbm, ⟨14, _⟩ => ⟨S128x64, .f32⟩
  | .hbm, ⟨15, _⟩ => ⟨S100000x64, .f32⟩
  | .hbm, ⟨16, _⟩ => ⟨S1x64, .f32⟩
  | .hbm, ⟨17, _⟩ => ⟨S100000x64, .f32⟩
  | .hbm, ⟨18, _⟩ => ⟨S100000x64, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.Words.lean ====
/-
  The words of the pipelined loop. The loop carries five words; before trip `k` they are the number of
  input blocks started, the number waited for, the number of output blocks started, the number of
  output blocks waited for, and the grid index. Each is a number below 51, so every condition and every
  offset the trip computes from them is a closed form of `k`: the slot `k % 2`, the block `k`, the next
  block `k + 1`, the last block `k - 1`.
-/
module

public import proofs.«01_k».proof.Proof.Gen.KernelIdeal.Loops
public import Idealize.ShloMosaic.Lib.Ring
public import Idealize.ShloMosaic.Lib.Ring.Trips
public import Idealize.ShloMosaic.Lib.Ring.WriteBehind

@[expose] public section

namespace Cert.Mlp

open Cert.KernelIdeal Cert.KernelIdeal.Gen
open Idealize.ShloMosaic Idealize.ShloMosaic.TcCoe

/-- The four words of trip `k`: the blocks started, the blocks waited for, the output blocks waited
    for, the grid index. -/
def wNext (k : ℕ) : BitVec 32 := BitVec.ofNat 32 (min (k + 1) 50)
def wCur (k : ℕ) : BitVec 32 := BitVec.ofNat 32 k
def wPrev (k : ℕ) : BitVec 32 := BitVec.ofNat 32 (k - 1)
def wIdx (k : ℕ) : BitVec 32 := BitVec.ofNat 32 (k % 50)

/-- The five words carried into trip `k` (and, at `k = 50`, out of the loop). -/
abbrev stAt (k : ℕ) : BitVec 32 × BitVec 32 × BitVec 32 × BitVec 32 × BitVec 32 :=
  (wNext k, wCur k, wCur k, wPrev k, wIdx k)

theorem trips_eq : k0_t1_loop.trips = 50 := by decide

/-- A fact of every trip, from a fact of every number below 50. -/
theorem trip_lt (k : Fin k0_t1_loop.trips) : k.val < 50 := Nat.lt_of_lt_of_eq k.isLt trips_eq

theorem cond1_iff (k : Fin k0_t1_loop.trips) : k0_cond1 k (wIdx k.val) = 1#1 ↔ k.val + 1 < 50 := by
  revert k; decide
theorem cond2_true (k : Fin k0_t1_loop.trips) : k0_cond2 k (wIdx k.val) = 1#1 := by
  revert k; decide
theorem cond5_true (k : Fin k0_t1_loop.trips) : k0_cond5 k (wIdx k.val) = 1#1 := by
  revert k; decide
theorem cond7_iff (k : Fin k0_t1_loop.trips) : k0_cond7 k (wIdx k.val) = 1#1 ↔ 1 ≤ k.val := by
  revert k; decide

theorem chk1_at (k : Fin k0_t1_loop.trips) :
    k0_chk1 k (wNext k.val) (wCur k.val) (wCur k.val) (wPrev k.val) (wIdx k.val) := by
  revert k; decide
theorem chk2_at (k : Fin k0_t1_loop.trips) : k0_chk2 (wCur k.val) := by revert k; decide
theorem chk3_at (k : Fin k0_t1_loop.trips) : k0_chk3 (wCur k.val) := by revert k; decide
theorem chk4_end : k0_chk4 (wPrev 50) := by decide
theorem chk5_end : k0_chk5 (wIdx 50) := by decide

/-! ## The offsets, in closed form -/

/-- Slot `s`'s offset in the input buffer, in the output buffer, and in either semaphore pair. -/
abbrev xslotOff (s : Fin 2) : Fin 3 → Nat := ![s.val, 0, 0]
abbrev oslotOff (s : Fin 2) : Fin 4 → Nat := ![s.val, 0, 0, 0]
abbrev semOff (s : Fin 2) : Fin 1 → Nat := ![s.val]
/-- Block `b`'s offset in the input array, and in the output array seen as pairs of rows. -/
abbrev xblkOff (b : Fin 50) : Fin 2 → Nat := ![2000 * b.val, 0]
abbrev oblkOff (b : Fin 50) : Fin 3 → Nat := ![1000 * b.val, 0, 0]

theorem xslotOff_inb (s : Fin 2) : ∀ a, xslotOff s a + S1x2000x128.size a ≤ S2x2000x128.size a := by
  revert s; decide
theorem oslotOff_inb (s : Fin 2) : ∀ a, oslotOff s a + S1x1000x2x64.size a ≤ S2x1000x2x64.size a := by
  revert s; decide
theorem semOff_inb (s : Fin 2) : ∀ a, semOff s a + S1.size a ≤ S2.size a := by
  revert s; decide
theorem xblkOff_inb (b : Fin 50) : ∀ a, xblkOff b a + S2000x128.size a ≤ S100000x128.size a := by
  revert b; decide
theorem oblkOff_inb (b : Fin 50) : ∀ a, oblkOff b a + S1000x2x64.size a ≤ S50000x2x64.size a := by
  revert b; decide

theorem off1_at : k0_off1 = semOff 0 := by decide
theorem off2_at : k0_off2 = xslotOff 0 := by decide

section Trip
variable (k : Fin k0_t1_loop.trips)

theorem off3_at (h : k.val + 1 < 50) : k0_off3 (wNext k.val) = semOff (Ring.sl 2 (k.val + 1)) := by
  revert k; decide
theorem off4_at (h : k.val + 1 < 50) : k0_off4 (wNext k.val) = xslotOff (Ring.sl 2 (k.val + 1)) := by
  revert k; decide
theorem off5_at (h : k.val + 1 < 50) : k0_off5 (wIdx k.val) = xblkOff (Ring.bk 50 (k.val + 1)) := by
  revert k; decide
theorem off6_at : k0_off6 (wCur k.val) = semOff (Ring.sl 2 k.val) := by revert k; decide
theorem off7_at : k0_off7 (wCur k.val) = xslotOff (Ring.sl 2 k.val) := by revert k; decide
theorem off8_at : k0_off8 (wIdx k.val) = xblkOff (Ring.bk 50 k.val) := by revert k; decide
theorem off9_at : k0_off9 (wCur k.val) = xslotOff (Ring.sl 2 k.val) := by revert k; decide
theorem off10_at : k0_off10 (wCur k.val) = oslotOff (Ring.sl 2 k.val) := by revert k; decide
theorem off11_at : k0_off11 (wCur k.val) = semOff (Ring.sl 2 k.val) := by revert k; decide
theorem off12_at : k0_off12 (wIdx k.val) = oblkOff (Ring.bk 50 k.val) := by revert k; decide
theorem off13_at : k0_off13 (wCur k.val) = oslotOff (Ring.sl 2 k.val) := by revert k; decide
theorem off14_at (h : 1 ≤ k.val) : k0_off14 (wPrev k.val) = semOff (Ring.sl 2 (k.val + 1)) := by
  revert k; decide
theorem off15_at (h : 1 ≤ k.val) : k0_off15 (wIdx k.val) = oblkOff (Ring.bk 50 (k.val - 1)) := by
  revert k; decide
theorem off16_at (h : 1 ≤ k.val) : k0_off16 (wPrev k.val) = oslotOff (Ring.sl 2 (k.val + 1)) := by
  revert k; decide

end Trip

theorem off17_at : k0_off17 (wPrev 50) = semOff 1 := by decide
theorem off18_at : k0_off18 (wIdx 50) = oblkOff 49 := by decide
theorem off19_at : k0_off19 (wPrev 50) = oslotOff 1 := by decide

end Cert.Mlp
-- ==== Proof.Names.lean ====
/-
  Canonical names for what a trip touches: the two slots of the input buffer and of the output buffer,
  their semaphores, and the 50 blocks of the input array and of the output array; and the equations by
  which the trip's slices are these.
-/
module

public import proofs.«01_k».proof.Proof.Words
public import Idealize.ShloMosaic.Lib.Affine
public import Idealize.ShloMosaic.Lib.Tactic

@[expose] public section

noncomputable section

namespace Cert.Mlp

open Cert.KernelIdeal Cert.KernelIdeal.Gen
open Idealize.ShloMosaic Idealize.ShloMosaic.TcCoe Idealize.ShloMosaic.Tactic

/-! ## The buffers -/

abbrev xM : Memref sig .tc .hbm S100000x128 .f32 := Memref.whole main_arg1
abbrev outM : Memref sig .tc .hbm S100000x64 .f32 := Memref.whole main_v2
abbrev xbufM : Memref sig .tc .vmem S2x2000x128 .f32 := Memref.whole cc0_scoped0
abbrev obufM : Memref sig .tc .vmem S2x1000x2x64 .f32 := Memref.whole cc0_scoped2
/-- The output array as pairs of rows, as the kernel reshapes it. -/
abbrev pairM : Memref sig .tc .hbm S50000x2x64 .f32 :=
  outM.reshape S50000x2x64 reshapes_S100000x64_S50000x2x64.1 reshapes_S100000x64_S50000x2x64.2 (Memref.isWhole_whole main_v2).contiguous

/-! ## Slots, blocks and semaphores -/

/-- Block `b` of the input array: rows `2000 b` to `2000 b + 1999`. -/
def xblk (b : Fin 50) : Memref sig .tc .hbm S2000x128 .f32 :=
  xM.slice (Rect.unit (s := S100000x128) (xblkOff b) S2000x128.size (xblkOff_inb b)) (fun _ => rfl)
/-- Slot `s` of the input buffer. -/
def xslot (s : Fin 2) : Memref sig .tc .vmem S2000x128 .f32 :=
  (xbufM.slice (Rect.unit (s := S2x2000x128) (xslotOff s) S1x2000x128.size (xslotOff_inb s)) (fun _ => rfl)).squeeze S2000x128 squeezes_S1x2000x128_S2000x128
/-- Block `b` of the output array: row pairs `1000 b` to `1000 b + 999`. -/
def oblk (b : Fin 50) : Memref sig .tc .hbm S1000x2x64 .f32 :=
  pairM.slice (Rect.unit (s := S50000x2x64) (oblkOff b) S1000x2x64.size (oblkOff_inb b)) (fun _ => rfl)
/-- Slot `s` of the output buffer. -/
def oslot (s : Fin 2) : Memref sig .tc .vmem S1000x2x64 .f32 :=
  (obufM.slice (Rect.unit (s := S2x1000x2x64) (oslotOff s) S1x1000x2x64.size (oslotOff_inb s)) (fun _ => rfl)).squeeze S1000x2x64 squeezes_S1x1000x2x64_S1000x2x64
/-- Slot `s`'s semaphore of the input buffer, and of the output buffer. -/
def xsem (s : Fin 2) : DmaSems sig S_ := (cc0_scoped1.slice (Rect.unit (s := S2) (semOff s) S1.size (semOff_inb s))).squeeze S_ squeezes_S1_S_
def osem (s : Fin 2) : DmaSems sig S_ := (cc0_scoped3.slice (Rect.unit (s := S2) (semOff s) S1.size (semOff_inb s))).squeeze S_ squeezes_S1_S_

/-! ## Slices at equal offsets -/

theorem xblk_congr {off : Fin 2 → Nat} {b : Fin 50} (e : off = xblkOff b) (hh hs) :
    xM.slice (Rect.unit (s := S100000x128) off S2000x128.size hh) hs = xblk b := Memref.slice_unit_congr _ e _ _ _ (fun _ => rfl)
theorem xslot_congr {off : Fin 3 → Nat} {s : Fin 2} (e : off = xslotOff s) (hh hs) :
    (xbufM.slice (Rect.unit (s := S2x2000x128) off S1x2000x128.size hh) hs).squeeze S2000x128 squeezes_S1x2000x128_S2000x128 = xslot s :=
  congrArg (fun M : Memref sig .tc .vmem S1x2000x128 .f32 => M.squeeze S2000x128 squeezes_S1x2000x128_S2000x128) (Memref.slice_unit_congr _ e _ _ _ _)
theorem oblk_congr {off : Fin 3 → Nat} {b : Fin 50} (e : off = oblkOff b) (hh hs) :
    pairM.slice (Rect.unit (s := S50000x2x64) off S1000x2x64.size hh) hs = oblk b := Memref.slice_unit_congr _ e _ _ _ (fun _ => rfl)
theorem oslot_congr {off : Fin 4 → Nat} {s : Fin 2} (e : off = oslotOff s) (hh hs) :
    (obufM.slice (Rect.unit (s := S2x1000x2x64) off S1x1000x2x64.size hh) hs).squeeze S1000x2x64 squeezes_S1x1000x2x64_S1000x2x64 = oslot s :=
  congrArg (fun M : Memref sig .tc .vmem S1x1000x2x64 .f32 => M.squeeze S1000x2x64 squeezes_S1x1000x2x64_S1000x2x64) (Memref.slice_unit_congr _ e _ _ _ _)
theorem xsem_congr {off : Fin 1 → Nat} {s : Fin 2} (e : off = semOff s) (hh) :
    (cc0_scoped1.slice (Rect.unit (s := S2) off S1.size hh)).squeeze S_ squeezes_S1_S_ = xsem s :=
  congrArg (fun A : DmaSems sig S1 => A.squeeze S_ squeezes_S1_S_) (SemArray.slice_unit_congr _ e _ _)
theorem osem_congr {off : Fin 1 → Nat} {s : Fin 2} (e : off = semOff s) (hh) :
    (cc0_scoped3.slice (Rect.unit (s := S2) off S1.size hh)).squeeze S_ squeezes_S1_S_ = osem s :=
  congrArg (fun A : DmaSems sig S1 => A.squeeze S_ squeezes_S1_S_) (SemArray.slice_unit_congr _ e _ _)

/-! ## The prologue's slices: slot 0, block 0 -/

@[sl_canon] theorem xsem_pro (hh) : (cc0_scoped1.slice (Rect.unit (s := S2) k0_off1 S1.size hh)).squeeze S_ squeezes_S1_S_ = xsem 0 := xsem_congr off1_at _
@[sl_canon] theorem xslot_pro (hh hs) : (xbufM.slice (Rect.unit (s := S2x2000x128) k0_off2 S1x2000x128.size hh) hs).squeeze S2000x128 squeezes_S1x2000x128_S2000x128 = xslot 0 := xslot_congr off2_at _ _
@[sl_canon] theorem xblk_pro (hh hs) : xM.slice (Rect.unit (s := S100000x128) ![0, 0] S2000x128.size hh) hs = xblk 0 := xblk_congr (by decide) _ _

/-! ## A trip's slices -/

section Trip
variable (k : Fin k0_t1_loop.trips)

@[sl_canon] theorem xsem_in (h : k.val + 1 < 50) (hh) :
    (cc0_scoped1.slice (Rect.unit (s := S2) (k0_off3 (wNext k.val)) S1.size hh)).squeeze S_ squeezes_S1_S_ = xsem (Ring.sl 2 (k.val + 1)) := xsem_congr (off3_at k h) _
@[sl_canon] theorem xslot_in (h : k.val + 1 < 50) (hh hs) :
    (xbufM.slice (Rect.unit (s := S2x2000x128) (k0_off4 (wNext k.val)) S1x2000x128.size hh) hs).squeeze S2000x128 squeezes_S1x2000x128_S2000x128 = xslot (Ring.sl 2 (k.val + 1)) := xslot_congr (off4_at k h) _ _
@[sl_canon] theorem xblk_in (h : k.val + 1 < 50) (hh hs) :
    xM.slice (Rect.unit (s := S100000x128) (k0_off5 (wIdx k.val)) S2000x128.size hh) hs = xblk (Ring.bk 50 (k.val + 1)) := xblk_congr (off5_at k h) _ _
@[sl_canon] theorem xsem_wait (hh) :
    (cc0_scoped1.slice (Rect.unit (s := S2) (k0_off6 (wCur k.val)) S1.size hh)).squeeze S_ squeezes_S1_S_ = xsem (Ring.sl 2 k.val) := xsem_congr (off6_at k) _
@[sl_canon] theorem xslot_wait (hh hs) :
    (xbufM.slice (Rect.unit (s := S2x2000x128) (k0_off7 (wCur k.val)) S1x2000x128.size hh) hs).squeeze S2000x128 squeezes_S1x2000x128_S2000x128 = xslot (Ring.sl 2 k.val) := xslot_congr (off7_at k) _ _
@[sl_canon] theorem xblk_wait (hh hs) :
    xM.slice (Rect.unit (s := S100000x128) (k0_off8 (wIdx k.val)) S2000x128.size hh) hs = xblk (Ring.bk 50 k.val) := xblk_congr (off8_at k) _ _
@[sl_canon] theorem xslot_load (hh hs) :
    (xbufM.slice (Rect.unit (s := S2x2000x128) (k0_off9 (wCur k.val)) S1x2000x128.size hh) hs).squeeze S2000x128 squeezes_S1x2000x128_S2000x128 = xslot (Ring.sl 2 k.val) := xslot_congr (off9_at k) _ _
@[sl_canon] theorem oslot_store (hh hs) :
    (obufM.slice (Rect.unit (s := S2x1000x2x64) (k0_off10 (wCur k.val)) S1x1000x2x64.size hh) hs).squeeze S1000x2x64 squeezes_S1x1000x2x64_S1000x2x64 = oslot (Ring.sl 2 k.val) := oslot_congr (off10_at k) _ _
@[sl_canon] theorem osem_out (hh) :
    (cc0_scoped3.slice (Rect.unit (s := S2) (k0_off11 (wCur k.val)) S1.size hh)).squeeze S_ squeezes_S1_S_ = osem (Ring.sl 2 k.val) := osem_congr (off11_at k) _
@[sl_canon] theorem oblk_out (hh hs) :
    pairM.slice (Rect.unit (s := S50000x2x64) (k0_off12 (wIdx k.val)) S1000x2x64.size hh) hs = oblk (Ring.bk 50 k.val) := oblk_congr (off12_at k) _ _
@[sl_canon] theorem oslot_out (hh hs) :
    (obufM.slice (Rect.unit (s := S2x1000x2x64) (k0_off13 (wCur k.val)) S1x1000x2x64.size hh) hs).squeeze S1000x2x64 squeezes_S1x1000x2x64_S1000x2x64 = oslot (Ring.sl 2 k.val) := oslot_congr (off13_at k) _ _
@[sl_canon] theorem osem_wait (h : 1 ≤ k.val) (hh) :
    (cc0_scoped3.slice (Rect.unit (s := S2) (k0_off14 (wPrev k.val)) S1.size hh)).squeeze S_ squeezes_S1_S_ = osem (Ring.sl 2 (k.val + 1)) := osem_congr (off14_at k h) _
@[sl_canon] theorem oblk_wait (h : 1 ≤ k.val) (hh hs) :
    pairM.slice (Rect.unit (s := S50000x2x64) (k0_off15 (wIdx k.val)) S1000x2x64.size hh) hs = oblk (Ring.bk 50 (k.val - 1)) := oblk_congr (off15_at k h) _ _
@[sl_canon] theorem oslot_wait (h : 1 ≤ k.val) (hh hs) :
    (obufM.slice (Rect.unit (s := S2x1000x2x64) (k0_off16 (wPrev k.val)) S1x1000x2x64.size hh) hs).squeeze S1000x2x64 squeezes_S1x1000x2x64_S1000x2x64 = oslot (Ring.sl 2 (k.val + 1)) := oslot_congr (off16_at k h) _ _

end Trip

/-! ## The epilogue's slices: slot 1, block 49 -/

@[sl_canon] theorem osem_end (hh) : (cc0_scoped3.slice (Rect.unit (s := S2) (k0_off17 (wPrev 50)) S1.size hh)).squeeze S_ squeezes_S1_S_ = osem 1 := osem_congr off17_at _
@[sl_canon] theorem oblk_end (hh hs) : pairM.slice (Rect.unit (s := S50000x2x64) (k0_off18 (wIdx 50)) S1000x2x64.size hh) hs = oblk 49 := oblk_congr off18_at _ _
@[sl_canon] theorem oslot_end (hh hs) : (obufM.slice (Rect.unit (s := S2x1000x2x64) (k0_off19 (wPrev 50)) S1x1000x2x64.size hh) hs).squeeze S1000x2x64 squeezes_S1x1000x2x64_S1000x2x64 = oslot 1 := oslot_congr off19_at _ _

end Cert.Mlp

end
-- ==== Proof.Block.lean ====
/-
  What the kernel computes, as plain functions: the 1000 row pairs a trip computes from the 2000 rows of its block,
  and the whole output array; and that the output array read through a block's view is that block's result.
-/
module

public import proofs.«01_k».proof.Proof.Names
public import proofs.«01_k».proof.Proof.Gen.KernelIdeal.Frame
public import Idealize.ShloMosaic.Lib.WritesUnit
public import Idealize.ShloMosaic.Lib.Pointwise

@[expose] public section

set_option maxRecDepth 16384

noncomputable section

namespace Cert.Mlp

open Cert.KernelIdeal Cert.KernelIdeal.Gen
open Idealize.ShloMosaic

variable {F : FTy → Type} [FloatOps F]

/-- The even rows, and the odd rows, of a block of 2000. -/
abbrev evenBox : LoadRect S2000x128 := ⟨![0, 0], S1000x128.size, ![2, 1], inb_S2000x128_S1000x128_0_0_s_2_1⟩
abbrev oddBox : LoadRect S2000x128 := ⟨![1, 0], S1000x128.size, ![2, 1], inb_S2000x128_S1000x128_1_0_s_2_1⟩

section
variable (v0 : Vec F S128x128 .f32) (v2 : FVec F S1x128 .f32) (v3 : Vec F S64x128 .f32) (v5 : FVec F S1x64 .f32)

/-- The result for the even rows of a block `B`, and for its odd rows. -/
def evenRes (B : S2000x128.Idx → Elt F .f32) : FVec F S1000x1x64 .f32 := k0_pay3 (k0_pay2 v0 v2 v3 v5 fun x => B (evenBox.idx x))
def oddRes (B : S2000x128.Idx → Elt F .f32) : FVec F S1000x1x64 .f32 := k0_pay4 v3 v5 (k0_pay1 v0 v2 fun x => B (oddBox.idx x))

/-- The row pairs of a block `B`: row 0 of a pair from the even rows, row 1 from the odd rows. -/
def blockRes (B : S2000x128.Idx → Elt F .f32) : S1000x2x64.Idx → Elt F .f32 := fun j =>
  if (j (1 : Fin 3)).val = 0 then evenRes v0 v2 v3 v5 B (ix3 (j (0 : Fin 3)) (0 : Fin 1) (j (2 : Fin 3)))
  else oddRes v0 v2 v3 v5 B (ix3 (j (0 : Fin 3)) (0 : Fin 1) (j (2 : Fin 3)))

/-- The two stores of a trip, in a buffer read back, are the block's row pairs. -/
theorem read_stores {κ : Kind} {sp : Space} (v : View sig κ sp S1000x2x64 .f32) (f : v.ty.Contents (Elt F)) (B : S2000x128.Idx → Elt F .f32) :
    v.read (Elt F) (v.writes (Elt F) f
      [⟨Rect.unit (s := S1000x2x64) ![0, 1, 0] S1000x1x64.size inb_S1000x2x64_S1000x1x64_0_1_0, oddRes v0 v2 v3 v5 B⟩,
       ⟨Rect.unit (s := S1000x2x64) ![0, 0, 0] S1000x1x64.size inb_S1000x2x64_S1000x1x64_0_0_0, evenRes v0 v2 v3 v5 B⟩])
    = blockRes v0 v2 v3 v5 B := by
  funext j
  have h1 : (j (1 : Fin 3)).val < 2 := (j (1 : Fin 3)).isLt
  unfold blockRes
  by_cases h : (j (1 : Fin 3)).val = 0
  · rw [if_pos h]
    rw [View.read_writes_cons_unit_of_not_mem v f _ _ _ j rfl (1 : Fin 3) (by left; show (j (1 : Fin 3)).val < 1; omega)]
    refine View.read_writes_cons_unit_of_mem v f _ _ _ j (ix3 (j (0 : Fin 3)) (0 : Fin 1) (j (2 : Fin 3))) rfl fun a => ?_
    match a with
    | ⟨0, _⟩ => show (j (0 : Fin 3)).val = 0 + (j (0 : Fin 3)).val; omega
    | ⟨1, _⟩ => show (j (1 : Fin 3)).val = 0 + 0; omega
    | ⟨2, _⟩ => show (j (2 : Fin 3)).val = 0 + (j (2 : Fin 3)).val; omega
  · rw [if_neg h]
    refine View.read_writes_cons_unit_of_mem v f _ _ _ j (ix3 (j (0 : Fin 3)) (0 : Fin 1) (j (2 : Fin 3))) rfl fun a => ?_
    match a with
    | ⟨0, _⟩ => show (j (0 : Fin 3)).val = 0 + (j (0 : Fin 3)).val; omega
    | ⟨1, _⟩ => show (j (1 : Fin 3)).val = 1 + 0; omega
    | ⟨2, _⟩ => show (j (2 : Fin 3)).val = 0 + (j (2 : Fin 3)).val; omega

/-- The output array: row `r` is row `r % 2` of pair `(r % 2000) / 2` of block `r / 2000`. -/
def outArr (X : S100000x128.Idx → Elt F .f32) : S100000x64.Idx → Elt F .f32 := fun i =>
  blockRes v0 v2 v3 v5 ((xblk ⟨(i (0 : Fin 2)).val / 2000, by have : (i (0 : Fin 2)).val < 100000 := (i (0 : Fin 2)).isLt; omega⟩).view.read (Elt F) X)
    (ix3 (⟨(i (0 : Fin 2)).val % 2000 / 2, by omega⟩ : Fin 1000) (⟨(i (0 : Fin 2)).val % 2, by omega⟩ : Fin 2) (i (1 : Fin 2)))

/-- Row `2 (1000 b + p) + q` of the output array is row `q` of pair `p` of block `b`. -/
theorem outArr_row (X : S100000x128.Idx → Elt F .f32) (b : Fin 50) (p : Fin 1000) (q : Fin 2) (c : Fin 64) (r : Fin 100000)
    (hr : r.val = 2 * (1000 * b.val + p.val) + q.val) :
    outArr v0 v2 v3 v5 X (ix2 r c) = blockRes v0 v2 v3 v5 ((xblk b).view.read (Elt F) X) (ix3 p q c) := by
  have hp := p.isLt
  have hq := q.isLt
  have hb := b.isLt
  have e : ∀ (h₁ : r.val / 2000 < 50) (h₂ : r.val % 2000 / 2 < 1000) (h₃ : r.val % 2 < 2),
      blockRes v0 v2 v3 v5 ((xblk ⟨r.val / 2000, h₁⟩).view.read (Elt F) X) (ix3 (⟨r.val % 2000 / 2, h₂⟩ : Fin 1000) (⟨r.val % 2, h₃⟩ : Fin 2) c)
        = blockRes v0 v2 v3 v5 ((xblk b).view.read (Elt F) X) (ix3 p q c) := by
    intro h₁ h₂ h₃
    rw [show (⟨r.val / 2000, h₁⟩ : Fin 50) = b from Fin.ext (by show r.val / 2000 = b.val; omega),
      show (⟨r.val % 2000 / 2, h₂⟩ : Fin 1000) = p from Fin.ext (by show r.val % 2000 / 2 = p.val; omega),
      show (⟨r.val % 2, h₃⟩ : Fin 2) = q from Fin.ext (by show r.val % 2 = q.val; omega)]
  exact e _ _ _

/-- Row `j1` of pair `j0` of the output's block `b` is row `2 (1000 b + j0) + j1` of the array. -/
theorem oblk_emb (b : Fin 50) (j0 : Fin 1000) (j1 : Fin 2) (j2 : Fin 64) (r : Fin 100000) (hr : r.val = 2 * (1000 * b.val + j0.val) + j1.val) :
    (oblk b).view.emb (ix3 j0 j1 j2) = (ix2 r j2 : S100000x64.Idx) := by
  have hb := b.isLt
  show (Shape.reshapeEquiv reshapes_S100000x64_S50000x2x64.1 ((Rect.unit (s := S50000x2x64) (oblkOff b) S1000x2x64.size (oblkOff_inb b)).emb (ix3 j0 j1 j2)) : S100000x64.Idx) = _
  have h0 := j0.isLt
  have h1 := j1.isLt
  pointwise [oblkOff]
  funext a
  match a with
  | ⟨0, _⟩ => exact Fin.ext (by show (1000 * b.val + 1 * j0.val) * 2 + (0 + 1 * j1.val) = r.val; omega)
  | ⟨1, _⟩ => exact Fin.ext (by show 0 + 1 * j2.val = j2.val; omega)

/-- The output array read through block `b`'s view is what the trip computes from block `b` of the input. -/
theorem read_outArr (X : S100000x128.Idx → Elt F .f32) (b : Fin 50) :
    (oblk b).view.read (Elt F) (outArr v0 v2 v3 v5 X) = blockRes v0 v2 v3 v5 ((xblk b).view.read (Elt F) X) := by
  have hb := b.isLt
  funext j
  idx_vars j
  have h0 := j0.isLt
  have h1 := j1.isLt
  show outArr v0 v2 v3 v5 X ((oblk b).view.emb (ix3 j0 j1 j2)) = _
  rw [oblk_emb b j0 j1 j2 ⟨2 * (1000 * b.val + j0.val) + j1.val, by omega⟩ rfl]
  exact outArr_row v0 v2 v3 v5 X b j0 j1 j2 _ rfl

end

end Cert.Mlp

end
-- ==== Proof.Trip.lean ====
/-
  One trip of the pipeline's loop: what is in flight before it, what it does, what is in flight after it; and the
  loop's invariant.
-/
module

public import proofs.«01_k».proof.Proof.Block

@[expose] public section

noncomputable section

namespace Cert.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline library's, beside the counters the kernel's own transfers use. -/
abbrev UU (nD : Nat) (τ : Topo) : Type := UR sig nD τ × Counters
local notation "𝕄" => MT nD τ sig Unit (Elt F) ℕ (UU nD τ) ℕ
abbrev 𝒱₀ : Variants := Variants.none

section Pieces
variable (c : Dev nD) (X : Buf (Elt F) (xM.view.loc (c : Thread nD τ)))

abbrev xcellP (s : Fin 2) : sProp 𝕄 := semVal ((c : Thread nD τ), SemLoc.dma (xsem s).sem) 0
abbrev ocellP (s : Fin 2) : sProp 𝕄 := semVal ((c : Thread nD τ), SemLoc.dma (osem s).sem) 0
abbrev xslotP (s : Fin 2) (f : Buf (Elt F) ((xslot s).view.loc (c : Thread nD τ))) : sProp 𝕄 :=
  (xslot s).view.loc (c : Thread nD τ) ↦[(xslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev xhomeP (b : Fin 50) : sProp 𝕄 := (xblk b).view.loc (c : Thread nD τ) ↦[(xblk b).view.set]{fullShare} X
abbrev oblkP (b : Fin 50) (f : Buf (Elt F) ((oblk b).view.loc (c : Thread nD τ))) : sProp 𝕄 :=
  (oblk b).view.loc (c : Thread nD τ) ↦[(oblk b).view.set]{fullShare} f

/-- What block `b`'s copy leaves in slot `s` over `f`. -/
abbrev landed (s : Fin 2) (b : Fin 50) (f : Buf (Elt F) ((xslot s).view.loc (c : Thread nD τ))) : Buf (Elt F) ((xslot s).view.loc (c : Thread nD τ)) :=
  (xslot s).view.writes (Elt F) f [⟨Rect.whole S2000x128, ReadAs.same.apply ((xblk b).view.read (Elt F) X)⟩]
abbrev xflightP (s : Fin 2) (b : Fin 50) (f : Buf (Elt F) ((xslot s).view.loc (c : Thread nD τ))) : sProp 𝕄 :=
  Transfers.Flight countersEmb (c : Thread nD τ) (SemLoc.dma (xsem s).sem) () 32000 iprop(xslotP c s (landed c X s b f) ∗ xhomeP c X b)
abbrev oflightP (s : Fin 2) (b : Fin 50) (g : Buf (Elt F) ((oblk b).view.loc (c : Thread nD τ))) (f : Buf (Elt F) ((oslot s).view.loc (c : Thread nD τ))) : sProp 𝕄 :=
  Transfers.Flight countersEmb (c : Thread nD τ) (SemLoc.dma (osem s).sem) () 32000 iprop(oblkP c b g ∗ oslotP c s f)

end Pieces

section Trip

variable (c : Dev nD) (X : Buf (Elt F) (xM.view.loc (c : Thread nD τ)))
  (v0 : Vec F S128x128 .f32) (v2 : FVec F S1x128 .f32) (v3 : Vec F S64x128 .f32) (v5 : FVec F S1x64 .f32)

/-! ## The state before trip `k` -/

/-- The output array the kernel leaves, as contents of the buffer block `b` lies in. -/
abbrev OUT (b : Fin 50) : Buf (Elt F) ((oblk b).view.loc (c : Thread nD τ)) := outArr v0 v2 v3 v5 X

/-- A slot with nothing in flight, and a slot with block `b` in flight: of the input buffer, of the output buffer. -/
def xfree (s : Fin 2) : sProp 𝕄 := iprop((∃ f, xslotP (F := F) c s f) ∗ xcellP (F := F) c s)
def xinfl (s : Fin 2) (b : Fin 50) : sProp 𝕄 := iprop(∃ f, xflightP c X s b f)
def ofree (s : Fin 2) : sProp 𝕄 := iprop((∃ f, oslotP (F := F) c s f) ∗ ocellP (F := F) c s)
def oinfl (s : Fin 2) (b : Fin 50) : sProp 𝕄 := iprop(∃ f, oflightP c s b (OUT c X v0 v2 v3 v5 b) f)
/-- A block of the output array at some contents. -/
def oanyP (b : Fin 50) : sProp 𝕄 := iprop(∃ f, oblkP (F := F) c b f)

/-- Before trip `k`: block `k` of the input is on its way into slot `k`, the other slot is free; block `k - 1` of the
    output is on its way out of slot `k + 1`, slot `k` is free; the output's blocks before it are written. -/
def resAt (k : ℕ) : sProp 𝕄 :=
  iprop((∃ W, owes (c : Thread nD τ) 0 W)
    ∗ bigSep (Ring.homeSet 1 k) (xhomeP c X)
    ∗ Ring.roleAt (NB := 50) (xfree (F := F) c (Ring.sl 2 k)) (xinfl c X (Ring.sl 2 k)) k
    ∗ xfree (F := F) c (Ring.sl 2 (k + 1))
    ∗ bigSep (Ring.aheadSet k) (oanyP (F := F) c)
    ∗ bigSep (Ring.behindSet 1 k) (fun b => oblkP c b (OUT c X v0 v2 v3 v5 b))
    ∗ ofree (F := F) c (Ring.sl 2 k)
    ∗ Ring.roleBAt (NB := 50) 1 (ofree (F := F) c (Ring.sl 2 (k + 1))) (oinfl c X v0 v2 v3 v5 (Ring.sl 2 (k + 1))) k)

/-! ## A block's copy out delivers the block of the output array -/

/-- What the two stores of a trip leave in slot `s` over `g`, block `b` the input. -/
abbrev stored (s : Fin 2) (b : Fin 50) (g : Buf (Elt F) ((oslot s).view.loc (c : Thread nD τ))) : Buf (Elt F) ((oslot s).view.loc (c : Thread nD τ)) :=
  (oslot s).view.writes (Elt F) g
    [⟨Rect.unit (s := S1000x2x64) ![0, 1, 0] S1000x1x64.size inb_S1000x2x64_S1000x1x64_0_1_0, oddRes v0 v2 v3 v5 ((xblk b).view.read (Elt F) X)⟩,
     ⟨Rect.unit (s := S1000x2x64) ![0, 0, 0] S1000x1x64.size inb_S1000x2x64_S1000x1x64_0_0_0, evenRes v0 v2 v3 v5 ((xblk b).view.read (Elt F) X)⟩]

/-- A load off a slot that a block has landed in reads the block. -/
theorem load_landed (s : Fin 2) (b : Fin 50) (B : LoadRect S2000x128) :
    (xslot s).view.readCov (Val := Elt F) [⟨Rect.whole S2000x128, ReadAs.same.apply ((xblk b).view.read (Elt F) X)⟩] B
      = fun x => (xblk b).view.read (Elt F) X (B.idx x) := by
  funext x
  unfold View.readCov
  rw [View.readAt_apply, View.read_writes_whole]

theorem oblk_landed (s : Fin 2) (b : Fin 50) (g h) :
    (oblkP c b ((oblk b).view.writes (Elt F) h [⟨Rect.whole S1000x2x64, ReadAs.same.apply ((oslot s).view.read (Elt F) (stored c X v0 v2 v3 v5 s b g))⟩]) : sProp 𝕄)
      = oblkP c b (OUT c X v0 v2 v3 v5 b) := by
  unfold oblkP stored OUT
  rw [pointsTo_rep (c : Thread nD τ) (oblk b) ((oblk b).view.writes (Elt F) h _), pointsTo_rep (c : Thread nD τ) (oblk b) (outArr v0 v2 v3 v5 X)]
  rw [View.read_writes_whole, read_stores, read_outArr]

/-- The same two stores, their rows as the trip loads them off slot `s'` that block `b` has landed in. -/
abbrev storedCov (s s' : Fin 2) (b : Fin 50) (g : Buf (Elt F) ((oslot s).view.loc (c : Thread nD τ))) : Buf (Elt F) ((oslot s).view.loc (c : Thread nD τ)) :=
  (oslot s).view.writes (Elt F) g
    [⟨Rect.unit (s := S1000x2x64) ![0, 1, 0] S1000x1x64.size inb_S1000x2x64_S1000x1x64_0_1_0,
        k0_pay4 v3 v5 (k0_pay1 v0 v2 ((xslot s').view.readCov (Val := Elt F) [⟨Rect.whole S2000x128, ReadAs.same.apply ((xblk b).view.read (Elt F) X)⟩] oddBox))⟩,
     ⟨Rect.unit (s := S1000x2x64) ![0, 0, 0] S1000x1x64.size inb_S1000x2x64_S1000x1x64_0_0_0,
        k0_pay3 (k0_pay2 v0 v2 v3 v5 ((xslot s').view.readCov (Val := Elt F) [⟨Rect.whole S2000x128, ReadAs.same.apply ((xblk b).view.read (Elt F) X)⟩] evenBox))⟩]

theorem storedCov_eq (s s' : Fin 2) (b : Fin 50) (g) : storedCov c X v0 v2 v3 v5 s s' b g = stored c X v0 v2 v3 v5 s b g := by
  unfold storedCov stored
  rw [load_landed c X s' b oddBox, load_landed c X s' b evenBox]
  rfl

/-- So the copy a trip starts delivers block `b` of the output array, and its slot back. -/
theorem out_flight (s s' : Fin 2) (b : Fin 50) (g h) :
    (Transfers.Flight countersEmb (c : Thread nD τ) (SemLoc.dma (osem s).sem) () 32000
      iprop(oblkP c b ((oblk b).view.writes (Elt F) h [⟨Rect.whole S1000x2x64, ReadAs.same.apply ((oslot s).view.read (Elt F) (storedCov c X v0 v2 v3 v5 s s' b g))⟩])
        ∗ oslotP c s (storedCov c X v0 v2 v3 v5 s s' b g)) : sProp 𝕄)
      ⊢ oinfl c X v0 v2 v3 v5 s b := by
  rw [storedCov_eq, oblk_landed]
  unfold oinfl
  iintro H
  iexists _
  iexact H

/-! ## The trip -/

variable  (arg1 : Memref sig .tc .vmem S128x128 .f32) (harg1 : arg1.IsWhole) (arg2 : Memref sig .tc .vmem S1x128 .f32) (harg2 : arg2.IsWhole)
  (arg3 : Memref sig .tc .vmem S64x128 .f32) (harg3 : arg3.IsWhole) (arg4 : Memref sig .tc .vmem S1x64 .f32) (harg4 : arg4.IsWhole) (v27 : BitVec 32)

abbrev tripG (k : Fin k0_t1_loop.trips) (a : BitVec 32 × BitVec 32 × BitVec 32 × BitVec 32 × BitVec 32) :=
  k0_t1_body (F := F) xM (Memref.isWhole_whole _) arg1 harg1 arg2 harg2 arg3 harg3 arg4 harg4 outM (Memref.isWhole_whole _)
    xbufM (Memref.isWhole_whole _) cc0_scoped1 obufM (Memref.isWhole_whole _) cc0_scoped3 v0 v2 v3 v5 v27 k a

/-- A trip in the middle: block `k + 1` is asked for, block `k` awaited, its result sent out, block `k - 1`'s copy awaited. -/
theorem tripMid (k : Fin k0_t1_loop.trips) (hk0 : 1 ≤ k.val) (hk1 : k.val + 1 < 50) :
    iprop((∃ W, owes (c : Thread nD τ) 0 W) ∗ xhomeP c X (Ring.bk 50 (k.val + 1)) ∗ xinfl c X (Ring.sl 2 k.val) (Ring.bk 50 k.val) ∗ xfree (F := F) c (Ring.sl 2 (k.val + 1))
      ∗ oanyP (F := F) c (Ring.bk 50 k.val) ∗ ofree (F := F) c (Ring.sl 2 k.val) ∗ oinfl c X v0 v2 v3 v5 (Ring.sl 2 (k.val + 1)) (Ring.bk 50 (k.val - 1)))
    ⊢ wp frame (wpE (defs₀ (F := F)) 𝒱₀ (c : Thread nD τ) none) Set.univ (tripG v0 v2 v3 v5 arg1 harg1 arg2 harg2 arg3 harg3 arg4 harg4 v27 k (stAt k.val))
        (fun acc => iprop(⌜acc = stAt (k.val + 1)⌝ ∗ (∃ W, owes (c : Thread nD τ) 0 W) ∗ xhomeP c X (Ring.bk 50 k.val) ∗ xinfl c X (Ring.sl 2 (k.val + 1)) (Ring.bk 50 (k.val + 1))
          ∗ xfree (F := F) c (Ring.sl 2 k.val) ∗ ofree (F := F) c (Ring.sl 2 (k.val + 1)) ∗ oinfl c X v0 v2 v3 v5 (Ring.sl 2 k.val) (Ring.bk 50 k.val) ∗ oblkP c (Ring.bk 50 (k.val - 1)) (OUT c X v0 v2 v3 v5 (Ring.bk 50 (k.val - 1))))) := by
  have hc1 := chk1_at k
  have hc2 := chk2_at k
  have hc3 := chk3_at k
  have h2 := cond2_true k
  have h5 := cond5_true k
  have h1 := (cond1_iff k).mpr hk1
  have h7 := (cond7_iff k).mpr hk0
  unfold xinfl xfree ofree oanyP oinfl
  iintro ⟨⟨%W, HW⟩, HxN, ⟨%f0, HF⟩, ⟨⟨%f1, HxS⟩, HxC⟩, ⟨%h, HoB⟩, ⟨⟨%g0, HoS⟩, HoC⟩, ⟨%g1, HG⟩⟩
  dsimp only [tripG, stAt]
  sl_unfold [k0_t1_body]
  sl_exec
  sl_step
  isplitr
  · ipureintro
    decide +revert
  have hf := out_flight c X v0 v2 v3 v5 (Ring.sl 2 k.val) (Ring.sl 2 k.val) (Ring.bk 50 k.val) g0 h
  unfold oinfl at hf
  isplitl [HW]; · iexists _; iexact HW
  isplitl [HF_src]; · iexact HF_src
  isplitl [HxC]; · iexists f1; iexact HxC
  isplitl [HF_dst HF]
  · isplitl [HF_dst]; · iexists _; iexact HF_dst
    iexact HF
  isplitl [HG_src HG]
  · isplitl [HG_src]; · iexists g1; iexact HG_src
    iexact HG
  isplitl [HoC]
  · iapply hf
    iexact HoC
  iexact HG_dst

/-- The first trip: no copy out to await yet. -/
theorem tripFirst (k : Fin k0_t1_loop.trips) (hk0 : k.val < 1) (hk1 : k.val + 1 < 50) :
    iprop((∃ W, owes (c : Thread nD τ) 0 W) ∗ xhomeP c X (Ring.bk 50 (k.val + 1)) ∗ xinfl c X (Ring.sl 2 k.val) (Ring.bk 50 k.val) ∗ xfree (F := F) c (Ring.sl 2 (k.val + 1))
      ∗ oanyP (F := F) c (Ring.bk 50 k.val) ∗ ofree (F := F) c (Ring.sl 2 k.val) ∗ ofree (F := F) c (Ring.sl 2 (k.val + 1)))
    ⊢ wp frame (wpE (defs₀ (F := F)) 𝒱₀ (c : Thread nD τ) none) Set.univ (tripG v0 v2 v3 v5 arg1 harg1 arg2 harg2 arg3 harg3 arg4 harg4 v27 k (stAt k.val))
        (fun acc => iprop(⌜acc = stAt (k.val + 1)⌝ ∗ (∃ W, owes (c : Thread nD τ) 0 W) ∗ xhomeP c X (Ring.bk 50 k.val) ∗ xinfl c X (Ring.sl 2 (k.val + 1)) (Ring.bk 50 (k.val + 1))
          ∗ xfree (F := F) c (Ring.sl 2 k.val) ∗ ofree (F := F) c (Ring.sl 2 (k.val + 1)) ∗ oinfl c X v0 v2 v3 v5 (Ring.sl 2 k.val) (Ring.bk 50 k.val))) := by
  have hc1 := chk1_at k
  have hc2 := chk2_at k
  have hc3 := chk3_at k
  have h2 := cond2_true k
  have h5 := cond5_true k
  have h1 := (cond1_iff k).mpr hk1
  have h7 : ¬ k0_cond7 k (wIdx k.val) = 1#1 := fun h => by have := (cond7_iff k).mp h; omega
  unfold xinfl xfree ofree oanyP oinfl
  iintro ⟨⟨%W, HW⟩, HxN, ⟨%f0, HF⟩, ⟨⟨%f1, HxS⟩, HxC⟩, ⟨%h, HoB⟩, ⟨⟨%g0, HoS⟩, HoC⟩, ⟨⟨%g1, HGs⟩, HGc⟩⟩
  dsimp only [tripG, stAt]
  sl_unfold [k0_t1_body]
  sl_exec
  sl_step
  isplitr
  · ipureintro
    decide +revert
  have hf := out_flight c X v0 v2 v3 v5 (Ring.sl 2 k.val) (Ring.sl 2 k.val) (Ring.bk 50 k.val) g0 h
  unfold oinfl at hf
  isplitl [HW]; · iexists _; iexact HW
  isplitl [HF_src]; · iexact HF_src
  isplitl [HxC]; · iexists f1; iexact HxC
  isplitl [HF_dst HF]
  · isplitl [HF_dst]; · iexists _; iexact HF_dst
    iexact HF
  isplitl [HGs HGc]
  · isplitl [HGs]; · iexists g1; iexact HGs
    iexact HGc
  iapply hf
  iexact HoC

/-- The last trip: no further block to ask for. -/
theorem tripLast (k : Fin k0_t1_loop.trips) (hk0 : 1 ≤ k.val) (hk1 : 50 ≤ k.val + 1) :
    iprop((∃ W, owes (c : Thread nD τ) 0 W) ∗ xinfl c X (Ring.sl 2 k.val) (Ring.bk 50 k.val) ∗ xfree (F := F) c (Ring.sl 2 (k.val + 1))
      ∗ oanyP (F := F) c (Ring.bk 50 k.val) ∗ ofree (F := F) c (Ring.sl 2 k.val) ∗ oinfl c X v0 v2 v3 v5 (Ring.sl 2 (k.val + 1)) (Ring.bk 50 (k.val - 1)))
    ⊢ wp frame (wpE (defs₀ (F := F)) 𝒱₀ (c : Thread nD τ) none) Set.univ (tripG v0 v2 v3 v5 arg1 harg1 arg2 harg2 arg3 harg3 arg4 harg4 v27 k (stAt k.val))
        (fun acc => iprop(⌜acc = stAt (k.val + 1)⌝ ∗ (∃ W, owes (c : Thread nD τ) 0 W) ∗ xhomeP c X (Ring.bk 50 k.val) ∗ xfree (F := F) c (Ring.sl 2 (k.val + 1))
          ∗ xfree (F := F) c (Ring.sl 2 k.val) ∗ ofree (F := F) c (Ring.sl 2 (k.val + 1)) ∗ oinfl c X v0 v2 v3 v5 (Ring.sl 2 k.val) (Ring.bk 50 k.val) ∗ oblkP c (Ring.bk 50 (k.val - 1)) (OUT c X v0 v2 v3 v5 (Ring.bk 50 (k.val - 1))))) := by
  have hc1 := chk1_at k
  have hc2 := chk2_at k
  have hc3 := chk3_at k
  have h2 := cond2_true k
  have h5 := cond5_true k
  have h1 : ¬ k0_cond1 k (wIdx k.val) = 1#1 := fun h => by have := (cond1_iff k).mp h; omega
  have h7 := (cond7_iff k).mpr hk0
  unfold xinfl xfree ofree oanyP oinfl
  iintro ⟨⟨%W, HW⟩, ⟨%f0, HF⟩, ⟨⟨%f1, HxS⟩, HxC⟩, ⟨%h, HoB⟩, ⟨⟨%g0, HoS⟩, HoC⟩, ⟨%g1, HG⟩⟩
  dsimp only [tripG, stAt]
  sl_unfold [k0_t1_body]
  sl_exec
  sl_step
  isplitr
  · ipureintro
    decide +revert
  have hf := out_flight c X v0 v2 v3 v5 (Ring.sl 2 k.val) (Ring.sl 2 k.val) (Ring.bk 50 k.val) g0 h
  unfold oinfl at hf
  isplitl [HW]; · iexists _; iexact HW
  isplitl [HF_src]; · iexact HF_src
  isplitl [HxS HxC]
  · isplitl [HxS]; · iexists f1; iexact HxS
    iexact HxC
  isplitl [HF_dst HF]
  · isplitl [HF_dst]; · iexists _; iexact HF_dst
    iexact HF
  isplitl [HG_src HG]
  · isplitl [HG_src]; · iexists g1; iexact HG_src
    iexact HG
  isplitl [HoC]
  · iapply hf
    iexact HoC
  iexact HG_dst

/-! ## The loop's invariant -/

/-- Trip `k`'s homes: block `k + 1` (going out) beside the rest; and trip `k + 1`'s: block `k` (just back) beside the same rest. -/
theorem homes_here (k : ℕ) (hk : k + 1 < 50) :
    (bigSep (Ring.homeSet 1 k) (xhomeP c X) : sProp 𝕄) = iprop(xhomeP c X (Ring.bk 50 (k + 1)) ∗ bigSep ((Ring.homeSet 1 k).erase (Ring.bk 50 (k + 1))) (xhomeP c X)) := by
  conv_lhs => rw [Ring.homeSet_out 1 k hk, bigSep_insert (Ring.bkL_not_mem_erase 1 k)]
  rfl
theorem homes_next (k : ℕ) (hk : k + 1 < 50) :
    (bigSep (Ring.homeSet 1 (k + 1)) (xhomeP c X) : sProp 𝕄) = iprop(xhomeP c X (Ring.bk 50 k) ∗ bigSep ((Ring.homeSet 1 k).erase (Ring.bk 50 (k + 1))) (xhomeP c X)) := by
  conv_lhs => rw [Ring.homeSet_succ 1 k hk, bigSep_insert (Ring.bk_not_mem_erase 1 k (by omega) (by decide))]
  rfl
theorem homes_tail (k : ℕ) (hk : 50 ≤ k + 1) (hk' : k < 50) :
    (bigSep (Ring.homeSet 1 (k + 1)) (xhomeP c X) : sProp 𝕄) = iprop(xhomeP c X (Ring.bk 50 k) ∗ bigSep (Ring.homeSet 1 k) (xhomeP c X)) := by
  conv_lhs => rw [Ring.homeSet_succ_tail 1 k hk hk', bigSep_insert (Ring.bk_not_mem_homeSet 1 k hk' (by decide))]
  rfl
theorem ahead_here (k : ℕ) (hk : k < 50) :
    (bigSep (Ring.aheadSet k) (oanyP (F := F) c) : sProp 𝕄) = iprop(oanyP (F := F) c (Ring.bk 50 k) ∗ bigSep (Ring.aheadSet (k + 1)) (oanyP (F := F) c)) := by
  conv_lhs => rw [Ring.aheadSet_open k hk, bigSep_insert (Ring.bk_not_mem_aheadSet_succ k hk)]
  rfl
theorem behind_next (k : ℕ) (hk : 1 ≤ k) (hk' : k < 50) (Φ : Fin 50 → sProp 𝕄) :
    bigSep (Ring.behindSet 1 (k + 1)) Φ = iprop(Φ (Ring.bk 50 (k - 1)) ∗ bigSep (Ring.behindSet 1 k) Φ) := by
  conv_lhs => rw [Ring.behindSet_close 1 k hk hk', bigSep_insert (Ring.bk_not_mem_behindSet 1 k hk hk')]
  rfl
theorem sl_two (k : ℕ) : Ring.sl 2 (k + 1 + 1) = Ring.sl 2 k := by rw [show k + 1 + 1 = k + 2 from rfl, Ring.sl_add]

/-- One trip, from the state before it to the state after it. -/
theorem tripRun (k : Fin k0_t1_loop.trips) :
    resAt c X v0 v2 v3 v5 k.val
    ⊢ wp frame (wpE (defs₀ (F := F)) 𝒱₀ (c : Thread nD τ) none) Set.univ (tripG v0 v2 v3 v5 arg1 harg1 arg2 harg2 arg3 harg3 arg4 harg4 v27 k (stAt k.val))
        (fun acc => iprop(⌜acc = stAt (k.val + 1)⌝ ∗ resAt c X v0 v2 v3 v5 (k.val + 1))) := by
  have hk := trip_lt k
  unfold resAt
  rw [sl_two, ahead_here c k.val hk, Ring.roleAt_of_lt _ _ k.val hk, Ring.roleBAt_of_le 1 _ _ (k.val + 1) (by omega), Nat.add_sub_cancel]
  by_cases hk1 : k.val + 1 < 50
  · rw [homes_here c X k.val hk1, homes_next c X k.val hk1, Ring.roleAt_of_lt _ _ (k.val + 1) hk1]
    by_cases hk0 : 1 ≤ k.val
    · rw [Ring.roleBAt_of_le 1 _ _ k.val hk0, behind_next k.val hk0 hk]
      iintro ⟨HW, ⟨HxN, HxR⟩, HF, HxS, ⟨HoB, HoA⟩, HoD, HoS, HG⟩
      iapply (wp_wand_r Idealize.ShloMosaic.frame (wpE (defs₀ (F := F)) 𝒱₀ (c : Thread nD τ) none) Set.univ)
      isplitl [HW HxN HF HxS HoB HoS HG]
      · iapply (tripMid c X v0 v2 v3 v5 arg1 harg1 arg2 harg2 arg3 harg3 arg4 harg4 v27 k hk0 hk1)
        isplitl [HW]; · iexact HW
        isplitl [HxN]; · iexact HxN
        isplitl [HF]; · iexact HF
        isplitl [HxS]; · iexact HxS
        isplitl [HoB]; · iexact HoB
        isplitl [HoS]; · iexact HoS
        iexact HG
      iintro %acc ⟨%hacc, HW, Hh, Hn, Hs, Ho, Hf, Hb⟩
      isplitr; · ipureintro; exact hacc
      isplitl [HW]; · iexact HW
      isplitl [Hh HxR]
      · isplitl [Hh]; · iexact Hh
        iexact HxR
      isplitl [Hn]; · iexact Hn
      isplitl [Hs]; · iexact Hs
      isplitl [HoA]; · iexact HoA
      isplitl [Hb HoD]
      · isplitl [Hb]; · iexact Hb
        iexact HoD
      isplitl [Ho]; · iexact Ho
      iexact Hf
    · rw [Ring.roleBAt_of_lt 1 _ _ k.val (by omega), Ring.behindSet_boot 1 k.val (by omega), Ring.behindSet_boot 1 (k.val + 1) (by omega)]
      iintro ⟨HW, ⟨HxN, HxR⟩, HF, HxS, ⟨HoB, HoA⟩, HoD, HoS, HG⟩
      iapply (wp_wand_r Idealize.ShloMosaic.frame (wpE (defs₀ (F := F)) 𝒱₀ (c : Thread nD τ) none) Set.univ)
      isplitl [HW HxN HF HxS HoB HoS HG]
      · iapply (tripFirst c X v0 v2 v3 v5 arg1 harg1 arg2 harg2 arg3 harg3 arg4 harg4 v27 k (by omega) hk1)
        isplitl [HW]; · iexact HW
        isplitl [HxN]; · iexact HxN
        isplitl [HF]; · iexact HF
        isplitl [HxS]; · iexact HxS
        isplitl [HoB]; · iexact HoB
        isplitl [HoS]; · iexact HoS
        iexact HG
      iintro %acc ⟨%hacc, HW, Hh, Hn, Hs, Ho, Hf⟩
      isplitr; · ipureintro; exact hacc
      isplitl [HW]; · iexact HW
      isplitl [Hh HxR]
      · isplitl [Hh]; · iexact Hh
        iexact HxR
      isplitl [Hn]; · iexact Hn
      isplitl [Hs]; · iexact Hs
      isplitl [HoA]; · iexact HoA
      isplitl [HoD]
      · iexact HoD
      isplitl [Ho]; · iexact Ho
      iexact Hf
  · have hk0 : 1 ≤ k.val := by omega
    rw [homes_tail c X k.val (by omega) hk, Ring.roleAt_of_le _ _ (k.val + 1) (by omega), Ring.roleBAt_of_le 1 _ _ k.val hk0, behind_next k.val hk0 hk]
    iintro ⟨HW, HxR, HF, HxS, ⟨HoB, HoA⟩, HoD, HoS, HG⟩
    iapply (wp_wand_r Idealize.ShloMosaic.frame (wpE (defs₀ (F := F)) 𝒱₀ (c : Thread nD τ) none) Set.univ)
    isplitl [HW HF HxS HoB HoS HG]
    · iapply (tripLast c X v0 v2 v3 v5 arg1 harg1 arg2 harg2 arg3 harg3 arg4 harg4 v27 k hk0 (by omega))
      isplitl [HW]; · iexact HW
      isplitl [HF]; · iexact HF
      isplitl [HxS]; · iexact HxS
      isplitl [HoB]; · iexact HoB
      isplitl [HoS]; · iexact HoS
      iexact HG
    iintro %acc ⟨%hacc, HW, Hh, Hn, Hs, Ho, Hf, Hb⟩
    isplitr; · ipureintro; exact hacc
    isplitl [HW]; · iexact HW
    isplitl [Hh HxR]
    · isplitl [Hh]; · iexact Hh
      iexact HxR
    isplitl [Hn]; · iexact Hn
    isplitl [Hs]; · iexact Hs
    isplitl [HoA]; · iexact HoA
    isplitl [Hb HoD]
    · isplitl [Hb]; · iexact Hb
      iexact HoD
    isplitl [Ho]; · iexact Ho
    iexact Hf

set_option warn.classDefReducibility false in
/-- The loop's invariant: the words carried are trip `k`'s, and the buffers are as `resAt k` says. -/
@[sl_loop] def loopInv (init : BitVec 32 × BitVec 32 × BitVec 32 × BitVec 32 × BitVec 32) :
    LoopInvTy_k0_t1 (F := F) Unit ℕ (UU nD τ) ℕ 𝒱₀ c none Set.univ xM (Memref.isWhole_whole _) arg1 harg1 arg2 harg2 arg3 harg3 arg4 harg4 outM (Memref.isWhole_whole _)
      xbufM (Memref.isWhole_whole _) cc0_scoped1 obufM (Memref.isWhole_whole _) cc0_scoped3 v0 v2 v3 v5 v27 init where
  inv k acc := iprop(⌜acc = stAt k⌝ ∗ resAt c X v0 v2 v3 v5 k)
  step k acc := by
    iintro ⟨%hacc, H⟩
    subst hacc
    iapply (tripRun c X v0 v2 v3 v5 arg1 harg1 arg2 harg2 arg3 harg3 arg4 harg4 v27 k)
    iexact H

end Trip

end Cert.Mlp

end
-- ==== Proof.Body.lean ====
/-
  The kernel's body on one core: the prologue's copy, the loop by its invariant, the epilogue's wait.
-/
module

public import proofs.«01_k».proof.Proof.Trip

@[expose] public section

noncomputable section

namespace Cert.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Body

variable (c : Dev nD) (X : Buf (Elt F) (xM.view.loc (c : Thread nD τ)))
  (arg1 : Memref sig .tc .vmem S128x128 .f32) (harg1 : arg1.IsWhole) (arg2 : Memref sig .tc .vmem S1x128 .f32) (harg2 : arg2.IsWhole)
  (arg3 : Memref sig .tc .vmem S64x128 .f32) (harg3 : arg3.IsWhole) (arg4 : Memref sig .tc .vmem S1x64 .f32) (harg4 : arg4.IsWhole)

abbrev bodyG : Prog (TpuEff nD τ sig (Elt F) Λ₀ .tc) PUnit :=
  cc0__mlp_kernel xM (Memref.isWhole_whole _) arg1 harg1 arg2 harg2 arg3 harg3 arg4 harg4 outM (Memref.isWhole_whole _)
    xbufM (Memref.isWhole_whole _) cc0_scoped1 obufM (Memref.isWhole_whole _) cc0_scoped3

/-- A staging buffer, held whole at `g`. -/
abbrev heldP {s : Shape} (a : Memref sig .tc .vmem s .f32) (g : Buf (Elt F) (a.view.loc (c : Thread nD τ))) : sProp 𝕄 :=
  a.view.loc (c : Thread nD τ) ↦[a.view.set]{fullShare} g

variable (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))

/-- The four values the body loads: the first layer's weights and bias row, the second's. -/
abbrev ldW1 : Vec F S128x128 .f32 := arg1.view.readAt (Elt F) (Rect.unit (s := S128x128) ![0, 0] S128x128.size inb_S128x128_S128x128_0_0).toLoadRect g1
abbrev ldB1 : FVec F S1x128 .f32 := k0_pay5 (arg2.view.readAt (Elt F) (Rect.unit (s := S1x128) ![0, 0] S1x128.size inb_S1x128_S1x128_0_0).toLoadRect g2)
abbrev ldW2 : Vec F S64x128 .f32 := arg3.view.readAt (Elt F) (Rect.unit (s := S64x128) ![0, 0] S64x128.size inb_S64x128_S64x128_0_0).toLoadRect g3
abbrev ldB2 : FVec F S1x64 .f32 := k0_pay6 (arg4.view.readAt (Elt F) (Rect.unit (s := S1x64) ![0, 0] S1x64.size inb_S1x64_S1x64_0_0).toLoadRect g4)

section
variable (v0 : Vec F S128x128 .f32) (v2 : FVec F S1x128 .f32) (v3 : Vec F S64x128 .f32) (v5 : FVec F S1x64 .f32)

/-- Block 0 asked for, everything else as it was: the state before trip 0. -/
theorem resAt_zero :
    iprop((∃ W, owes (c : Thread nD τ) 0 W) ∗ bigSep (Ring.homeSet 1 0) (xhomeP c X) ∗ xinfl c X 0 0 ∗ xfree (F := F) c 1
      ∗ bigSep Finset.univ (oanyP (F := F) c) ∗ ofree (F := F) c 0 ∗ ofree (F := F) c 1)
      ⊢ resAt c X v0 v2 v3 v5 0 := by
  unfold resAt
  rw [Ring.roleAt_of_lt _ _ 0 (by decide), Ring.roleBAt_of_lt 1 _ _ 0 (by decide), Ring.behindSet_boot 1 0 (by decide), Ring.aheadSet_zero, bigSep_empty,
    show Ring.sl 2 0 = 0 from rfl, show Ring.sl 2 (0 + 1) = 1 from rfl, show Ring.bk 50 0 = 0 from rfl]
  iintro ⟨HW, Hh, Hi, Hf, Ho, H0, H1⟩
  isplitl [HW]; · iexact HW
  isplitl [Hh]; · iexact Hh
  isplitl [Hi]; · iexact Hi
  isplitl [Hf]; · iexact Hf
  isplitl [Ho]; · iexact Ho
  isplitr; · iempintro
  isplitl [H0]; · iexact H0
  iexact H1

/-- What is held after the last trip. -/
abbrev endP : sProp 𝕄 :=
  iprop((∃ W, owes (c : Thread nD τ) 0 W) ∗ bigSep Finset.univ (xhomeP c X) ∗ xfree (F := F) c 0 ∗ xfree (F := F) c 1
    ∗ bigSep (Ring.behindSet 1 50) (fun b => oblkP c b (OUT c X v0 v2 v3 v5 b)) ∗ ofree (F := F) c 0 ∗ oinfl c X v0 v2 v3 v5 1 49)

/-- After the last trip only block 49 of the output is still on its way, out of slot 1. -/
theorem resAt_end :
    resAt c X v0 v2 v3 v5 50 ⊢ endP c X v0 v2 v3 v5 := by
  unfold resAt
  rw [Ring.roleAt_of_le _ _ 50 (by decide), Ring.roleBAt_of_le 1 _ _ 50 (by decide), Ring.homeSet_last 1 50 (by decide), Ring.aheadSet_end 50 (by decide), bigSep_empty,
    show Ring.sl 2 50 = 0 from rfl, show Ring.sl 2 (50 + 1) = 1 from rfl, show Ring.bk 50 (50 - 1) = 49 from rfl]
  iintro ⟨HW, Hh, Hi, Hf, -, Hb, H0, H1⟩
  isplitl [HW]; · iexact HW
  isplitl [Hh]; · iexact Hh
  isplitl [Hi]; · iexact Hi
  isplitl [Hf]; · iexact Hf
  isplitl [Hb]; · iexact Hb
  isplitl [H0]; · iexact H0
  iexact H1

/-- Every block of the output: block 49 beside the ones before it. -/
theorem behind_all (Φ : Fin 50 → sProp 𝕄) : iprop(bigSep (Ring.behindSet 1 50) Φ ∗ Φ 49) ⊢ bigSep Finset.univ Φ := by
  have e : (Finset.univ : Finset (Fin 50)) = insert 49 (Ring.behindSet 1 50) := by
    ext b; simp only [Finset.mem_univ, Finset.mem_insert, Ring.mem_behindSet, true_iff, Fin.ext_iff]; have := b.isLt; show b.val = 49 ∨ _; omega
  have h : (49 : Fin 50) ∉ Ring.behindSet (NB := 50) 1 50 := by rw [Ring.mem_behindSet]; decide
  rw [e, bigSep_insert h]
  show _ ⊢ iprop(Φ 49 ∗ bigSep (Ring.behindSet 1 50) Φ)
  iintro ⟨H, H'⟩
  isplitl [H']; · iexact H'
  iexact H

end

/-- The program's spellings of the last wait's cell, block and slot, at the words the loop ends with. -/
@[sl_canon] theorem osem_lit (hh) : (cc0_scoped3.slice (Rect.unit (s := S2) (k0_off17 49#32) S1.size hh)).squeeze S_ squeezes_S1_S_ = Mlp.osem 1 := osem_end hh
@[sl_canon] theorem oblk_lit (hh hs) : pairM.slice (Rect.unit (s := S50000x2x64) (k0_off18 0#32) S1000x2x64.size hh) hs = oblk 49 := oblk_end hh hs
@[sl_canon] theorem oslot_lit (hh hs) : (obufM.slice (Rect.unit (s := S2x1000x2x64) (k0_off19 49#32) S1x1000x2x64.size hh) hs).squeeze S1000x2x64 squeezes_S1x1000x2x64_S1000x2x64 = oslot 1 := oslot_end hh hs

attribute [local irreducible] resAt in
theorem bodyRun (Q : PUnit → sProp 𝕄) :
    iprop((heldP c arg1 g1 ∗ heldP c arg2 g2 ∗ heldP c arg3 g3 ∗ heldP c arg4 g4
      ∗ (∃ W, owes (c : Thread nD τ) 0 W) ∗ xhomeP c X 0 ∗ bigSep (Ring.homeSet 1 0) (xhomeP c X)
      ∗ xfree (F := F) c 0 ∗ xfree (F := F) c 1 ∗ bigSep Finset.univ (oanyP (F := F) c) ∗ ofree (F := F) c 0 ∗ ofree (F := F) c 1)
      ∗ ((heldP c arg1 g1 ∗ heldP c arg2 g2 ∗ heldP c arg3 g3 ∗ heldP c arg4 g4
        ∗ (∃ W, owes (c : Thread nD τ) 0 W) ∗ bigSep Finset.univ (xhomeP c X) ∗ xfree (F := F) c 0 ∗ xfree (F := F) c 1
        ∗ bigSep Finset.univ (fun b => oblkP c b (OUT c X (ldW1 c arg1 g1) (ldB1 c arg2 g2) (ldW2 c arg3 g3) (ldB2 c arg4 g4) b))
        ∗ ofree (F := F) c 0 ∗ ofree (F := F) c 1) -∗ Q ⟨⟩))
      ⊢ wp frame (wpE (defs₀ (F := F)) 𝒱₀ (c : Thread nD τ) none) Set.univ (bodyG arg1 harg1 arg2 harg2 arg3 harg3 arg4 harg4) Q := by
  have hz := resAt_zero c X (ldW1 c arg1 g1) (ldB1 c arg2 g2) (ldW2 c arg3 g3) (ldB2 c arg4 g4)
  unfold xinfl at hz
  have hx : (xfree (F := F) c 0 : sProp 𝕄) ⊢ iprop((∃ f, xslotP (F := F) c 0 f) ∗ xcellP (F := F) c 0) := by unfold xfree; exact .rfl
  iintro ⟨⟨H1, H2, H3, H4, ⟨%W, HW⟩, Hx, Hxr, Hf0, Hf1, Ho, Hof0, Hof1⟩, HQ⟩
  ihave Hf0' := hx $$ Hf0
  icases Hf0' with ⟨⟨%f0, Hs0⟩, Hc0⟩
  sl_exec
  ihave HR := hz $$ [HW Hxr Hc0 Hf1 Ho Hof0 Hof1]
  · isplitl [HW]; · iexists _; iexact HW
    isplitl [Hxr]; · iexact Hxr
    isplitl [Hc0]; · iexists _; iexact Hc0
    isplitl [Hf1]; · iexact Hf1
    isplitl [Ho]; · iexact Ho
    isplitl [Hof0]; · iexact Hof0
    iexact Hof1
  have hc4 := chk4_end
  have hc5 := chk5_end
  sl_exec
  have he : resAt c X (bodyRun.sl.r c arg1 g1) (bodyRun.sl.v2 c arg2 g2) (bodyRun.sl.r_1 c arg3 g3) (bodyRun.sl.v5 c arg4 g4)
      (Scf.trips k0_t1_loop.lb k0_t1_loop.ub k0_t1_loop.st)
      ⊢ endP c X (ldW1 c arg1 g1) (ldB1 c arg2 g2) (ldW2 c arg3 g3) (ldB2 c arg4 g4) := by
    rw [show Scf.trips k0_t1_loop.lb k0_t1_loop.ub k0_t1_loop.st = 50 from trips_eq]; exact resAt_end c X (ldW1 c arg1 g1) (ldB1 c arg2 g2) (ldW2 c arg3 g3) (ldB2 c arg4 g4)
  ihave HE := he $$ HR
  icases HE with ⟨⟨%W', HW⟩, Hx, Hf0, Hf1, Hb, H0, Hi⟩
  have hi : (oinfl c X (ldW1 c arg1 g1) (ldB1 c arg2 g2) (ldW2 c arg3 g3) (ldB2 c arg4 g4) 1 49 : sProp 𝕄)
      ⊢ iprop(∃ f, oflightP c 1 49 (OUT c X (ldW1 c arg1 g1) (ldB1 c arg2 g2) (ldW2 c arg3 g3) (ldB2 c arg4 g4) 49) f) := by unfold oinfl; exact .rfl
  ihave Hi := hi $$ Hi
  icases Hi with ⟨%f1, Hi⟩
  sl_exec
  sl_step
  have ho : iprop((∃ f, oslotP (F := F) c 1 f) ∗ ocellP (F := F) c 1) ⊢ ofree (F := F) c 1 := by unfold ofree; exact .rfl
  iapply HQ
  isplitl [H1]; · iexact H1
  isplitl [H2]; · iexact H2
  isplitl [H3]; · iexact H3
  isplitl [H4]; · iexact H4
  isplitl [HW]; · iexists _; iexact HW
  isplitl [Hx]; · iexact Hx
  isplitl [Hf0]; · iexact Hf0
  isplitl [Hf1]; · iexact Hf1
  isplitl [Hb Hi_dst]
  · iapply (behind_all (fun b => oblkP c b (OUT c X (ldW1 c arg1 g1) (ldB1 c arg2 g2) (ldW2 c arg3 g3) (ldB2 c arg4 g4) b)))
    isplitl [Hb]; · iexact Hb
    iexact Hi_dst
  isplitl [H0]; · iexact H0
  iapply ho
  isplitl [Hi_src]; · iexists f1; iexact Hi_src
  iexact Hi

end Body

end Cert.Mlp

end
-- ==== Proof.Pieces.lean ====
/-
  The arrays and buffers cut into the pieces the body holds: the input array into its 50 blocks, the output
  array into its 50 blocks of row pairs, each double buffer into its two slots.
-/
module

public import proofs.«01_k».proof.Proof.Body

@[expose] public section

noncomputable section

namespace Cert.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

theorem entails_of_eq {P Q : sProp 𝕄} (e : P = Q) : P ⊢ Q := e ▸ .rfl

/-! ## Which elements each piece has -/

def xset (b : Fin 50) : Finset S100000x128.Idx := (xblk b).view.set
def oset (b : Fin 50) : Finset S100000x64.Idx := (oblk b).view.set
def xsset (s : Fin 2) : Finset S2x2000x128.Idx := (xslot s).view.set
def osset (s : Fin 2) : Finset S2x1000x2x64.Idx := (oslot s).view.set

theorem xset_eq (b : Fin 50) : xset b = (Rect.unit (s := S100000x128) (xblkOff b) S2000x128.size (xblkOff_inb b)).set := View.set_slice_whole _ _
theorem xsset_eq (s : Fin 2) : xsset s = (Rect.unit (s := S2x2000x128) (xslotOff s) S1x2000x128.size (xslotOff_inb s)).set :=
  (View.set_reshape _ _).trans (View.set_slice_whole _ _)
theorem osset_eq (s : Fin 2) : osset s = (Rect.unit (s := S2x1000x2x64) (oslotOff s) S1x1000x2x64.size (oslotOff_inb s)).set :=
  (View.set_reshape _ _).trans (View.set_slice_whole _ _)
theorem oset_iff (b : Fin 50) (y : S100000x64.Idx) : y ∈ oset b ↔ ∃ j : S1000x2x64.Idx, ((oblk b).view.emb j : S100000x64.Idx) = y :=
  Finset.mem_map.trans ⟨fun ⟨j, _, e⟩ => ⟨j, e⟩, fun ⟨j, e⟩ => ⟨j, Finset.mem_univ _, e⟩⟩

theorem mem_xblk (b : Fin 50) (y : S100000x128.Idx) : y ∈ xset b ↔ (y 0).val / 2000 = b.val := by
  have h1 : (y 1).val < 128 := (y 1).isLt
  have hb := b.isLt
  rw [xset_eq, Rect.mem_set_unit]
  constructor
  · intro H; have a0 : 2000 * b.val ≤ (y 0).val ∧ (y 0).val < 2000 * b.val + 2000 := H 0; omega
  · intro H i; fin_cases i
    · show 2000 * b.val ≤ (y 0).val ∧ (y 0).val < 2000 * b.val + 2000; omega
    · show 0 ≤ (y 1).val ∧ (y 1).val < 0 + 128; omega

theorem mem_oblk (b : Fin 50) (y : S100000x64.Idx) : y ∈ oset b ↔ (y 0).val / 2000 = b.val := by
  have hb := b.isLt
  rw [oset_iff]
  constructor
  · rintro ⟨j, rfl⟩
    idx_vars j
    have h0 := j0.isLt
    have h1 := j1.isLt
    rw [oblk_emb b j0 j1 j2 ⟨2 * (1000 * b.val + j0.val) + j1.val, by omega⟩ rfl]
    show (2 * (1000 * b.val + j0.val) + j1.val) / 2000 = b.val
    omega
  · intro H
    idx_vars y
    have H' : y0.val / 2000 = b.val := H
    exact ⟨ix3 (⟨y0.val % 2000 / 2, by omega⟩ : Fin 1000) (⟨y0.val % 2, by omega⟩ : Fin 2) y1,
      oblk_emb b _ _ _ _ (by show y0.val = 2 * (1000 * b.val + y0.val % 2000 / 2) + y0.val % 2; omega)⟩

theorem mem_xslot (s : Fin 2) (y : S2x2000x128.Idx) : y ∈ xsset s ↔ (y 0).val = s.val := by
  have h1 : (y 1).val < 2000 := (y 1).isLt
  have h2 : (y 2).val < 128 := (y 2).isLt
  rw [xsset_eq, Rect.mem_set_unit]
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2000; omega
    · show 0 ≤ (y 2).val ∧ (y 2).val < 0 + 128; omega

theorem mem_oslot (s : Fin 2) (y : S2x1000x2x64.Idx) : y ∈ osset s ↔ (y 0).val = s.val := by
  have h1 : (y 1).val < 1000 := (y 1).isLt
  have h2 : (y 2).val < 2 := (y 2).isLt
  have h3 : (y 3).val < 64 := (y 3).isLt
  rw [osset_eq, Rect.mem_set_unit]
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1000; omega
    · show 0 ≤ (y 2).val ∧ (y 2).val < 0 + 2; omega
    · show 0 ≤ (y 3).val ∧ (y 3).val < 0 + 64; omega

/-- Pieces told apart by a number of their elements are disjoint, and cover if every element has its piece. -/
theorem disjoint_of_key {ι α : Type} [DecidableEq α] (G : ι → Finset α) (key : α → ι) (h : ∀ b y, y ∈ G b ↔ key y = b) :
    ∀ b b', b ≠ b' → Disjoint (G b) (G b') := by
  intro b b' hne; rw [Finset.disjoint_left]; intro y hy hy'
  exact hne (((h b y).mp hy).symm.trans ((h b' y).mp hy'))
theorem cover_of_key {ι α : Type} [DecidableEq α] [Fintype ι] [Fintype α] (G : ι → Finset α) (key : α → ι) (h : ∀ b y, y ∈ G b ↔ key y = b) :
    (Finset.univ : Finset ι).biUnion G = Finset.univ := by
  ext y; simp only [Finset.mem_biUnion, Finset.mem_univ, true_and, iff_true]; exact ⟨key y, (h _ y).mpr rfl⟩

def xkey (y : S100000x128.Idx) : Fin 50 := ⟨(y 0).val / 2000, by have : (y 0).val < 100000 := (y 0).isLt; omega⟩
def okey (y : S100000x64.Idx) : Fin 50 := ⟨(y 0).val / 2000, by have : (y 0).val < 100000 := (y 0).isLt; omega⟩
def xskey (y : S2x2000x128.Idx) : Fin 2 := ⟨(y 0).val, (y 0).isLt⟩
def oskey (y : S2x1000x2x64.Idx) : Fin 2 := ⟨(y 0).val, (y 0).isLt⟩

theorem xset_key (b y) : y ∈ xset b ↔ xkey y = b := (mem_xblk b y).trans (by rw [Fin.ext_iff]; exact Iff.rfl)
theorem oset_key (b y) : y ∈ oset b ↔ okey y = b := (mem_oblk b y).trans (by rw [Fin.ext_iff]; exact Iff.rfl)
theorem xsset_key (b y) : y ∈ xsset b ↔ xskey y = b := (mem_xslot b y).trans (by rw [Fin.ext_iff]; exact Iff.rfl)
theorem osset_key (b y) : y ∈ osset b ↔ oskey y = b := (mem_oslot b y).trans (by rw [Fin.ext_iff]; exact Iff.rfl)

/-! ## The pieces of each array and buffer -/

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The input array whole is its 50 blocks. -/
theorem x_eq (c : Dev nD) (X : Buf (Elt F) ((c : Thread nD τ).loc main_arg1)) :
    (((c : Thread nD τ).loc main_arg1) ↦{fullShare} X : sProp 𝕄) = bigSep Finset.univ (xhomeP c X) :=
  Ring.pointsTo_blocks (ℓ := (c : Thread nD τ).loc main_arg1) xset (disjoint_of_key _ xkey xset_key) (cover_of_key _ xkey xset_key) X
/-- The output array whole is its 50 blocks. -/
theorem out_eq (c : Dev nD) (f : Buf (Elt F) ((c : Thread nD τ).loc main_v2)) :
    (((c : Thread nD τ).loc main_v2) ↦{fullShare} f : sProp 𝕄) = bigSep Finset.univ (fun b => oblkP c b f) :=
  Ring.pointsTo_blocks (ℓ := (c : Thread nD τ).loc main_v2) oset (disjoint_of_key _ okey oset_key) (cover_of_key _ okey oset_key) f

/-- The blocks at known contents are the blocks at some contents. -/
theorem out_any (c : Dev nD) (f : Buf (Elt F) ((c : Thread nD τ).loc main_v2)) :
    (bigSep Finset.univ (fun b => oblkP c b f) : sProp 𝕄) ⊢ bigSep Finset.univ (oanyP (F := F) c) := by
  have h : ∀ b : Fin 50, (oblkP c b f : sProp 𝕄) ⊢ oanyP c b := fun b => by
    unfold oanyP
    iintro H
    iexists f
    iexact H
  exact bigSep_mono fun b _ => h b

/-- Block 0 of the input apart from the others. -/
theorem homes_zero (c : Dev nD) (X : Buf (Elt F) (xM.view.loc (c : Thread nD τ))) :
    bigSep Finset.univ (xhomeP c X) = iprop(xhomeP c X 0 ∗ bigSep (Ring.homeSet 1 0) (xhomeP c X)) := by
  have e : (Finset.univ : Finset (Fin 50)) = insert 0 (Ring.homeSet (NB := 50) 1 0) := by
    ext b; simp only [Finset.mem_univ, Finset.mem_insert, Ring.mem_homeSet, true_iff, Fin.ext_iff]; have := b.isLt; show b.val = 0 ∨ _; omega
  rw [e, bigSep_insert (by simp [Ring.mem_homeSet])]; rfl

/-- The input's double buffer is its two slots, and back. -/
theorem xbuf_split (c : Dev nD) :
    iprop(∃ f : Buf (Elt F) ((c : Thread nD τ).loc cc0_scoped0), ((c : Thread nD τ).loc cc0_scoped0) ↦{fullShare} f)
      ⊢ (iprop((∃ f, xslotP c 0 f) ∗ ∃ f, xslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped0)
    xsset (disjoint_of_key _ xskey xsset_key) (cover_of_key _ xskey xsset_key) f).trans (bigSep_fin2 _))) $$ H
  icases H2 with ⟨H0, H1⟩
  isplitl [H0]
  · iexists f; iexact H0
  · iexists f; iexact H1
theorem xbuf_join (c : Dev nD) :
    iprop((∃ f, xslotP c 0 f) ∗ ∃ f, xslotP c 1 f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) xsset (disjoint_of_key _ xskey xsset_key) (cover_of_key _ xskey xsset_key) f0)
  irw [bigSep_fin2]
  isplitl [H0]
  · iexists f0; iexact H0
  · iexists f1; iexact H1

/-- The output's double buffer is its two slots, and back. -/
theorem obuf_split (c : Dev nD) :
    iprop(∃ f : Buf (Elt F) ((c : Thread nD τ).loc cc0_scoped2), ((c : Thread nD τ).loc cc0_scoped2) ↦{fullShare} f)
      ⊢ (iprop((∃ f, oslotP c 0 f) ∗ ∃ f, oslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped2)
    osset (disjoint_of_key _ oskey osset_key) (cover_of_key _ oskey osset_key) f).trans (bigSep_fin2 _))) $$ H
  icases H2 with ⟨H0, H1⟩
  isplitl [H0]
  · iexists f; iexact H0
  · iexists f; iexact H1
theorem obuf_join (c : Dev nD) :
    iprop((∃ f, oslotP c 0 f) ∗ ∃ f, oslotP c 1 f)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) osset (disjoint_of_key _ oskey osset_key) (cover_of_key _ oskey osset_key) f0)
  irw [bigSep_fin2]
  isplitl [H0]
  · iexists f0; iexact H0
  · iexists f1; iexact H1

end Cert.Mlp

end
-- ==== Proof.Run.lean ====
/-
  The kernel's run, for floats of any kind: it ends, the argument arrays are as they were, every semaphore is
  at zero, and the output array holds `resOf`, the value computed block by block.
-/
module

public import proofs.«01_k».proof.Proof.Pieces
public import proofs.«01_k».proof.Proof.Gen.KernelIdeal.Frame
public import Idealize.ShloMosaic.Lib.Pipeline.KitQuiescent

@[expose] public section

noncomputable section

namespace Cert.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

abbrev EP : Emb (UR sig nD τ) (MT nD τ sig Unit (Elt F) ℕ (UU nD τ) ℕ) := embL

/-! ## The kernel's own semaphores -/

abbrev ownSem : Fin 4 → SemLoc sig := fun
  | 0 => .dma (xsem 0).sem | 1 => .dma (xsem 1).sem | 2 => .dma (Mlp.osem 0).sem | 3 => .dma (Mlp.osem 1).sem
theorem ownSemFacts : Pipeline.OwnSemFacts spec0 ownSem := by decide

theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

theorem ownSems0_eq (c : Dev nD) : (Pipeline.ownSems0 (Ix := Unit) (Name := ℕ) (U := UU nD τ) (Lvl := ℕ) (Val := Elt F) (τ := τ) ownSem c : sProp 𝕄)
    = iprop(xcellP c 0 ∗ xcellP c 1 ∗ ocellP c 0 ∗ ocellP c 1) := by
  unfold Pipeline.ownSems0; rw [bigSep_fin4]

/-! ## What the output array holds at the end -/

/-- The output array's contents, from the arrays as the pipeline finds them. -/
def resOf (c : Dev nD) : Buf (Elt F) ((c : Thread nD τ).loc main_v2) :=
  outArr (V m c main_arg2) (k0_pay5 (V m c main_v0)) (V m c main_arg4) (k0_pay6 (V m c main_v1)) (V m c main_arg1)

abbrev XA (c : Dev nD) : Buf (Elt F) (xM.view.loc (c : Thread nD τ)) := V m c main_arg1

/-! ## The pipeline's proof data -/

/-- Held between points of the pipeline besides the staging buffers: the input array's blocks, the output array's
    at what `P` says, the slots at anything with their semaphores at zero. -/
def Φat (c : Dev nD) (P : Fin 50 → sProp 𝕄) : sProp 𝕄 :=
  iprop(bigSep Finset.univ (xhomeP c (XA m c)) ∗ xfree (F := F) c 0 ∗ xfree (F := F) c 1 ∗ bigSep Finset.univ P
    ∗ ofree (F := F) c 0 ∗ ofree (F := F) c 1)
/-- Before the one point the output array is at anything, after it at `resOf`. -/
def Φ (c : Dev nD) (k : ℕ) : sProp 𝕄 :=
  if k = 0 then Φat m c (oanyP (F := F) c) else Φat m c (fun b => oblkP c b (resOf m c))

theorem Φ_zero (c : Dev nD) : Φ m c 0 = Φat m c (oanyP (F := F) c) := if_pos rfl
theorem Φ_pos (c : Dev nD) (k : ℕ) (hk : k ≠ 0) : Φ m c k = Φat m c (fun b => oblkP c b (resOf m c)) := if_neg hk

abbrev st0 (t : Fin cfg0.N) : Memref sig .tc .vmem S128x128 .f32 := win0_0.stage (cfg0.slots t 0)
abbrev st1 (t : Fin cfg0.N) : Memref sig .tc .vmem S1x128 .f32 := win0_1.stage (cfg0.slots t 1)
abbrev st2 (t : Fin cfg0.N) : Memref sig .tc .vmem S64x128 .f32 := win0_2.stage (cfg0.slots t 2)
abbrev st3 (t : Fin cfg0.N) : Memref sig .tc .vmem S1x64 .f32 := win0_3.stage (cfg0.slots t 3)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0
abbrev hst3 (t : Fin cfg0.N) : (st3 t).IsWhole := hstage0_3 0

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := Φ m c t.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]

/-! ## The values the body loads are the arrays -/

theorem ldW1_eq (c : Dev nD) (t : Fin cfg0.N) : ldW1 c (st0 t) ((st0 t).view.rep (iblk m c 0 t)) = V m c main_arg2 := by
  funext j
  idx_vars j
  unfold ldW1
  rw [View.readAt_apply, View.read_rep]
  unfold iblk; rw [View.read_apply]
  refine congrArg (V m c main_arg2) ?_
  funext a
  match a with
  | ⟨0, _⟩ => exact Fin.ext (by show 0 + 1 * (0 + 1 * j0.val) = j0.val; omega)
  | ⟨1, _⟩ => exact Fin.ext (by show 0 + 1 * (0 + 1 * j1.val) = j1.val; omega)
theorem ldB1_eq (c : Dev nD) (t : Fin cfg0.N) : ldB1 c (st1 t) ((st1 t).view.rep (iblk m c 1 t)) = k0_pay5 (V m c main_v0) := by
  unfold ldB1
  refine congrArg k0_pay5 ?_
  funext j
  idx_vars j
  rw [View.readAt_apply, View.read_rep]
  unfold iblk; rw [View.read_apply]
  refine congrArg (V m c main_v0) ?_
  funext a
  match a with
  | ⟨0, _⟩ => exact Fin.ext (by show 0 + 1 * (0 + 1 * j0.val) = j0.val; omega)
  | ⟨1, _⟩ => exact Fin.ext (by show 0 + 1 * (0 + 1 * j1.val) = j1.val; omega)
theorem ldW2_eq (c : Dev nD) (t : Fin cfg0.N) : ldW2 c (st2 t) ((st2 t).view.rep (iblk m c 2 t)) = V m c main_arg4 := by
  funext j
  idx_vars j
  unfold ldW2
  rw [View.readAt_apply, View.read_rep]
  unfold iblk; rw [View.read_apply]
  refine congrArg (V m c main_arg4) ?_
  funext a
  match a with
  | ⟨0, _⟩ => exact Fin.ext (by show 0 + 1 * (0 + 1 * j0.val) = j0.val; omega)
  | ⟨1, _⟩ => exact Fin.ext (by show 0 + 1 * (0 + 1 * j1.val) = j1.val; omega)
theorem ldB2_eq (c : Dev nD) (t : Fin cfg0.N) : ldB2 c (st3 t) ((st3 t).view.rep (iblk m c 3 t)) = k0_pay6 (V m c main_v1) := by
  unfold ldB2
  refine congrArg k0_pay6 ?_
  funext j
  idx_vars j
  rw [View.readAt_apply, View.read_rep]
  unfold iblk; rw [View.read_apply]
  refine congrArg (V m c main_v1) ?_
  funext a
  match a with
  | ⟨0, _⟩ => exact Fin.ext (by show 0 + 1 * (0 + 1 * j0.val) = j0.val; omega)
  | ⟨1, _⟩ => exact Fin.ext (by show 0 + 1 * (0 + 1 * j1.val) = j1.val; omega)

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t)) = bodyG (st0 t) (hst0 t) (st1 t) (hst1 t) (st2 t) (hst2 t) (st3 t) (hst3 t) :=
  (congrFun defs_tc _).trans rfl

set_option backward.isDefEq.respectTransparency.types false in
theorem body_obligation (c : Dev nD) : BodyObligation (dats (F := F) m 0 c) (defs₀ (F := F)) 𝒱₀ () Set.univ := fun t => by
  have ht : t.val = 0 := congrArg Fin.val (fin_N0 t)
  rw [bigSep_W0, bigSep_W0]
  dsimp only
  simp only [before_w0, before_w1, before_w2, before_w3, after_w0, after_w1, after_w2, after_w3]
  rw [show (dats m 0 c).Φ t.castSucc = Φat m c (oanyP (F := F) c) from (congrArg (Φ m c) ht).trans (Φ_zero m c),
    show (dats m 0 c).Φ t.succ = Φat m c (fun b => oblkP c b (resOf m c)) from Φ_pos m c t.succ.val (Nat.succ_ne_zero _)]
  unfold Dat.owesAt Pipeline.owesWithin
  rw [show (dats m 0 c).owed t.castSucc = 0 from rfl, show (dats m 0 c).owed t.succ = 0 from rfl]
  unfold owns Φat
  iintro ⟨⟨Hh, Hx0, Hx1, Ho, Ho0, Ho1⟩, ⟨%W, -, HW⟩, ⟨%d0, %g0, %hg0, H0⟩, ⟨%d1, %g1, %hg1, H1⟩, ⟨%d2, %g2, %hg2, H2⟩, ⟨%d3, %g3, %hg3, H3⟩⟩
  ihave Hh' := (entails_of_eq (homes_zero c (XA m c))) $$ Hh
  icases Hh' with ⟨Hb0, Hh⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  ihave H3' := (pointsTo_rep_entails (c : Thread nD τ) (st3 t) g3 fullShare) $$ H3
  rw [hg0, hg1, hg2, hg3]
  sl_rw [prog_eq t]
  iapply (bodyRun c (XA m c) (st0 t) (hst0 t) (st1 t) (hst1 t) (st2 t) (hst2 t) (st3 t) (hst3 t))
  isplitl [H0' H1' H2' H3' HW Hb0 Hh Hx0 Hx1 Ho Ho0 Ho1]
  · isplitl [H0']; · iexact H0'
    isplitl [H1']; · iexact H1'
    isplitl [H2']; · iexact H2'
    isplitl [H3']; · iexact H3'
    isplitl [HW]; · iexists W; iexact HW
    isplitl [Hb0]; · iexact Hb0
    isplitl [Hh]; · iexact Hh
    isplitl [Hx0]; · iexact Hx0
    isplitl [Hx1]; · iexact Hx1
    isplitl [Ho]; · iexact Ho
    isplitl [Ho0]; · iexact Ho0
    iexact Ho1
  · rw [ldW1_eq, ldB1_eq, ldW2_eq, ldB2_eq]
    iintro ⟨H0, H1, H2, H3, ⟨%W', HW⟩, Hh, Hx0, Hx1, Ho, Ho0, Ho1⟩
    isplitl [Hh Hx0 Hx1 Ho Ho0 Ho1]
    · isplitl [Hh]; · iexact Hh
      isplitl [Hx0]; · iexact Hx0
      isplitl [Hx1]; · iexact Hx1
      isplitl [Ho]; · iexact Ho
      isplitl [Ho0]; · iexact Ho0
      iexact Ho1
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    iexists _; isplitr; · ipureintro; exact View.read_rep _ _
    iexact H3

/-! ## The run -/

def intoΦ (c : Dev nD) : sProp 𝕄 :=
  iprop((((c : Thread nD τ).loc main_arg1) ↦{fullShare} V m c main_arg1) ∗ (((c : Thread nD τ).loc main_v2) ↦{fullShare} V m c main_v2) ∗ Pipeline.ownSems0 ownSem c)
def outOfΦ (c : Dev nD) : sProp 𝕄 :=
  iprop((((c : Thread nD τ).loc main_arg1) ↦{fullShare} V m c main_arg1) ∗ (((c : Thread nD τ).loc main_v2) ↦{fullShare} resOf m c))
def asideΦ (c : Dev nD) : sProp 𝕄 :=
  iprop((((c : Thread nD τ).loc main_arg0) ↦{fullShare} V m c main_arg0) ∗ (((c : Thread nD τ).loc main_arg3) ↦{fullShare} V m c main_arg3)
    ∗ (((c : Thread nD τ).loc main_arg5) ↦{fullShare} V m c main_arg5))
def u₀ : UU nD τ := (initOf (Pipeline.cells cfgs Cert.KernelIdeal.Gen.cellOf_inj) (Pipeline.launchToks cfgs Cert.KernelIdeal.Gen.cellOf_inj), 1)

/-- What is read off the final memory at the arrays no window stages. -/
def QY (c : Dev nD) (s : MemSt nD τ sig (Elt F)) : Prop :=
  s.mem ((c : Thread nD τ).loc main_v2) = resOf m c
  ∧ s.mem ((c : Thread nD τ).loc main_arg0) = V m c main_arg0
  ∧ s.mem ((c : Thread nD τ).loc main_arg1) = V m c main_arg1
  ∧ s.mem ((c : Thread nD τ).loc main_arg3) = V m c main_arg3
  ∧ s.mem ((c : Thread nD τ).loc main_arg5) = V m c main_arg5

def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

set_option backward.isDefEq.respectTransparency.types false in
theorem run_raw : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := asideΦ m)
    (hX := fun c => by
      rw [unscopedRest0_eq]
      unfold intoΦ asideΦ
      iintro ⟨⟨H0, H1, H3, H5, H6⟩, HS, -, -, -⟩; imodintro
      isplitl [H1 H6 HS]
      · isplitl [H1]; · iexact H1
        isplitl [H6]; · iexact H6
        iexact HS
      isplitl [H0]; · iexact H0
      isplitl [H3]; · iexact H3
      iexact H5)
    (hin := fun c => by
      rw [scopedRest0_eq, show (dats m 0 c).Φ 0 = Φat m c (oanyP (F := F) c) from Φ_zero m c]
      unfold intoΦ Φat xfree ofree; rw [ownSems0_eq, x_eq, out_eq]
      iintro ⟨⟨H1, H2, Hc0, Hc1, Hd0, Hd1⟩, Hb, Hd⟩
      ihave Hs := (xbuf_split c) $$ Hb
      icases Hs with ⟨Hs0, Hs1⟩
      ihave Ht := (obuf_split c) $$ Hd
      icases Ht with ⟨Ht0, Ht1⟩
      isplitl [H1]; · iexact H1
      isplitl [Hs0 Hc0]
      · isplitl [Hs0]; · iexact Hs0
        iexact Hc0
      isplitl [Hs1 Hc1]
      · isplitl [Hs1]; · iexact Hs1
        iexact Hc1
      isplitl [H2]
      · iapply (out_any c (V m c main_v2)); iexact H2
      isplitl [Ht0 Hd0]
      · isplitl [Ht0]; · iexact Ht0
        iexact Hd0
      isplitl [Ht1]; · iexact Ht1
      iexact Hd1)
    (hout := fun c => by
      rw [scopedRest0_eq, show (dats m 0 c).Φ (Fin.last cfg0.N) = Φat m c (fun b => oblkP c b (resOf m c)) from Φ_pos m c (Fin.last cfg0.N).val (by show ¬ grid0.N = 0; rw [N_0]; decide), ownSems0_eq]
      unfold Φat outOfΦ xfree ofree; rw [x_eq, out_eq]
      iintro ⟨H1, ⟨Hs0, Hc0⟩, ⟨Hs1, Hc1⟩, H2, ⟨Ht0, Hd0⟩, ⟨Ht1, Hd1⟩⟩
      isplitl [H1 H2]
      · isplitl [H1]; · iexact H1
        iexact H2
      isplitl [Hc0 Hc1 Hd0 Hd1]
      · isplitl [Hc0]; · iexact Hc0
        isplitl [Hc1]; · iexact Hc1
        isplitl [Hd0]; · iexact Hd0
        iexact Hd1
      isplitl [Hs0 Hs1]
      · iapply (xbuf_join c)
        isplitl [Hs0]; · iexact Hs0
        iexact Hs1
      iapply (obuf_join c)
      isplitl [Ht0]; · iexact Ht0
      iexact Ht1)
    (QY := QY m)
    (hY := fun c s' => by
      unfold outOfΦ asideΦ
      iintro ⟨⟨H1, H2⟩, ⟨H0, H3, H5⟩, HSI⟩
      icombine HSI H0 gives %h0
      icombine HSI H1 gives %h1
      icombine HSI H2 gives %h2
      icombine HSI H3 gives %h3
      icombine HSI H5 gives %h5
      imodintro
      isplitr
      · ipureintro
        exact ⟨Buf.eq_of_forall_mem_univ h2, Buf.eq_of_forall_mem_univ h0, Buf.eq_of_forall_mem_univ h1, Buf.eq_of_forall_mem_univ h3, Buf.eq_of_forall_mem_univ h5⟩
      iexact HSI)
    (hQ := fun _ hh hz => ⟨hh, hz⟩)

/-- The kernel's run: it ends, with `resOf` in the output array, the argument arrays as they were and every
    semaphore at zero. -/
theorem run_main : θ_run defs (onTc (τ := τ) (main (F := F))) ⟨m, fun _ => 0, ρ⟩ (fun r =>
    (∀ c : Dev nD, r.2.mem ((c.tc : Thread nD τ).loc main_v2) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs _ _).mono (fun r h => ⟨fun c => by
    obtain ⟨hw, hv, h0, h1, h3, h5⟩ := h.1 c
    exact ⟨hv, h0.trans (V_main_arg0 m c), h1.trans (V_main_arg1 m c),
      (hw 0).trans (((dats m 0 c).arrAt_in 0 rfl _).trans (V_main_arg2 m c)), h3.trans (V_main_arg3 m c),
      (hw 2).trans (((dats m 0 c).arrAt_in 2 rfl _).trans (V_main_arg4 m c)), h5.trans (V_main_arg5 m c)⟩, h.2⟩) (run_raw m ρ)

end Cert.Mlp

end
-- ==== Proof.Row.lean ====
/-
  The perceptron on one row, as both programs compute it at the ideal instance.
-/
module

public import proofs.«01_k».proof.Proof.Gen.KernelIdeal
public import Idealize.ShloMosaic.Lib.Pointwise

@[expose] public section

noncomputable section

namespace Cert.Mlp

open Cert.KernelIdeal
open Idealize.ShloMosaic

abbrev E : Type := Elt Ideal .f32

/-- The hidden layer of a row: its products with the first weights, the bias added, negative values made zero. -/
def hid (W1 : S128x128.Idx → E) (b1 : S128.Idx → E) (row : Fin 128 → E) (h : Fin 128) : E :=
  max ((∑ i : Fin 128, row i * W1 (ix2 h i)) + b1 (ix1 h)) 0
/-- The second layer on it. -/
def mlpRow (W1 : S128x128.Idx → E) (b1 : S128.Idx → E) (W2 : S64x128.Idx → E) (b2 : S64.Idx → E) (row : Fin 128 → E) (c : Fin 64) : E :=
  (∑ h : Fin 128, hid W1 b1 row h * W2 (ix2 c h)) + b2 (ix1 c)

end Cert.Mlp

end
-- ==== Proof.RefValue.lean ====
/-
  The reference's array at an element: the same perceptron on the same row.
-/
module

public import proofs.«01_k».proof.Proof.Row
public import proofs.«01_k».proof.Proof.Gen.ReferenceIdeal.Run

@[expose] public section

set_option maxRecDepth 16384

noncomputable section

namespace Cert.Mlp

open Idealize.ShloMosaic Idealize.ShloMosaic.TcCoe

section
open Cert.ReferenceIdeal Cert.ReferenceIdeal.Gen
variable (W1 : S128x128.Idx → E) (b1 : S128.Idx → E) (W2 : S64x128.Idx → E) (b2 : S64.Idx → E)

/-- The reference's array, as its run states it. -/
abbrev refArr (X : S100000x128.Idx → E) : S100000x64.Idx → E :=
  addf (F := Ideal) (Host.dotGeneral (φ₁ := .f32) (φ₂ := .f32) dot_S100000x128_S128x64_S100000x64_1_0_0_1_n_n none (maximumf (addf (Host.dotGeneral (φ₁ := .f32) (φ₂ := .f32) dot_S100000x128_S128x128_S100000x128_1_0_0_1_n_n none X (transpose S128x128 [1, 0] W1 transposes_S128x128_S128x128_1_0)) (broadcastInDim S100000x128 ![0, 1] bcast_S1x128_S100000x128_0_1 (broadcastInDim S1x128 ![1] bcast_S128_S1x128_1 b1))) (broadcastInDim S100000x128 ![] bcast_S_S100000x128 (constant S_ .f32 0x00000000#32))) (transpose S128x64 [1, 0] W2 transposes_S64x128_S128x64_1_0)) (broadcastInDim S100000x64 ![0, 1] bcast_S1x64_S100000x64_0_1 (broadcastInDim S1x64 ![1] bcast_S64_S1x64_1 b2))

theorem refArr_congr {W1' : S128x128.Idx → E} {b1' : S128.Idx → E} {W2' : S64x128.Idx → E} {b2' : S64.Idx → E} {X X' : S100000x128.Idx → E}
    (hX : X = X') (hW1 : W1 = W1') (hb1 : b1 = b1') (hW2 : W2 = W2') (hb2 : b2 = b2') :
    refArr W1 b1 W2 b2 X = refArr W1' b1' W2' b2' X' := by
  subst hX hW1 hb1 hW2 hb2; rfl

theorem refArr_apply (X : S100000x128.Idx → E) (r : Fin 100000) (c : Fin 64) :
    refArr W1 b1 W2 b2 X (ix2 r c) = mlpRow W1 b1 W2 b2 (fun i => X (ix2 r i)) c := by
  unfold refArr mlpRow hid
  pointwise

end

end Cert.Mlp

end
-- ==== Proof.Value.lean ====
/-
  The equation: at the ideal instance the array the kernel leaves is the reference's term. Both are the same
  two sums at each element, the kernel's reached through the block, the pair and the row of the pair.
-/
module

public import proofs.«01_k».proof.Proof.Run
public import proofs.«01_k».proof.Proof.RefValue

@[expose] public section

set_option maxRecDepth 16384

noncomputable section

namespace Cert.Mlp

open Cert.KernelIdeal Cert.KernelIdeal.Gen
open Idealize.ShloMosaic Idealize.ShloMosaic.TcCoe

section
variable (W1 : S128x128.Idx → E) (b1 : S128.Idx → E) (W2 : S64x128.Idx → E) (b2 : S64.Idx → E)

/-- The kernel's row vector of a bias. -/
abbrev kb1 : FVec Ideal S1x128 .f32 := k0_pay5 (shapeCast S1x128 b1 shapeCasts_S128_S1x128)
abbrev kb2 : FVec Ideal S1x64 .f32 := k0_pay6 (shapeCast S1x64 b2 shapeCasts_S64_S1x64)

theorem pay2_apply (xe : Vec Ideal S1000x128 .f32) (p : Fin 1000) (c : Fin 64) :
    k0_pay2 (F := Ideal) W1 (kb1 b1) W2 (kb2 b2) xe (ix2 p c) = mlpRow W1 b1 W2 b2 (fun i => xe (ix2 p i)) c := by
  unfold k0_pay2 kb1 kb2 k0_pay5 k0_pay6 mlpRow hid
  pointwise

theorem pay4_apply (xo : Vec Ideal S1000x128 .f32) (p : Fin 1000) (c : Fin 64) :
    k0_pay4 (F := Ideal) W2 (kb2 b2) (k0_pay1 W1 (kb1 b1) xo) (ix3 p (0 : Fin 1) c) = mlpRow W1 b1 W2 b2 (fun i => xo (ix2 p i)) c := by
  unfold k0_pay4 k0_pay1 kb1 kb2 k0_pay5 k0_pay6 mlpRow hid
  pointwise

theorem pay3_apply (xe : Vec Ideal S1000x128 .f32) (p : Fin 1000) (c : Fin 64) :
    k0_pay3 (F := Ideal) (k0_pay2 W1 (kb1 b1) W2 (kb2 b2) xe) (ix3 p (0 : Fin 1) c) = mlpRow W1 b1 W2 b2 (fun i => xe (ix2 p i)) c := by
  rw [← pay2_apply]
  unfold k0_pay3
  pointwise

/-- Row `q` of pair `p` of a block is the perceptron on the block's row `2 p + q`. -/
theorem blockRes_apply (B : S2000x128.Idx → E) (p : Fin 1000) (q : Fin 2) (c : Fin 64) (r : Fin 2000) (hr : r.val = 2 * p.val + q.val) :
    blockRes (F := Ideal) W1 (kb1 b1) W2 (kb2 b2) B (ix3 p q c) = mlpRow W1 b1 W2 b2 (fun i => B (ix2 r i)) c := by
  have hq := q.isLt
  unfold blockRes
  by_cases h : q.val = 0
  · rw [if_pos (show ((ix3 p q c : S1000x2x64.Idx) (1 : Fin 3)).val = 0 from h)]
    refine (pay3_apply W1 b1 W2 b2 _ p c).trans ?_
    congr 1
    funext i
    refine congrArg B ?_
    funext a
    match a with
    | ⟨0, _⟩ => exact Fin.ext (by show 0 + 2 * p.val = r.val; omega)
    | ⟨1, _⟩ => exact Fin.ext (by show 0 + 1 * i.val = i.val; omega)
  · rw [if_neg (show ¬ ((ix3 p q c : S1000x2x64.Idx) (1 : Fin 3)).val = 0 from h)]
    refine (pay4_apply W1 b1 W2 b2 _ p c).trans ?_
    congr 1
    funext i
    refine congrArg B ?_
    funext a
    match a with
    | ⟨0, _⟩ => exact Fin.ext (by show 1 + 2 * p.val = r.val; omega)
    | ⟨1, _⟩ => exact Fin.ext (by show 0 + 1 * i.val = i.val; omega)

/-- Row `r` of the kernel's array is the perceptron on row `r` of the input. -/
theorem outArr_apply (X : S100000x128.Idx → E) (r : Fin 100000) (c : Fin 64) :
    outArr (F := Ideal) W1 (kb1 b1) W2 (kb2 b2) X (ix2 r c) = mlpRow W1 b1 W2 b2 (fun i => X (ix2 r i)) c := by
  have hr := r.isLt
  rw [outArr_row _ _ _ _ X ⟨r.val / 2000, by omega⟩ ⟨r.val % 2000 / 2, by omega⟩ ⟨r.val % 2, by omega⟩ c r
      (by show r.val = 2 * (1000 * (r.val / 2000) + r.val % 2000 / 2) + r.val % 2; omega),
    blockRes_apply W1 b1 W2 b2 _ _ _ c ⟨r.val % 2000, by omega⟩ (by show r.val % 2000 = 2 * (r.val % 2000 / 2) + r.val % 2; omega)]
  congr 1
  funext i
  refine congrArg X ?_
  funext a
  match a with
  | ⟨0, _⟩ => exact Fin.ext (by show 2000 * (r.val / 2000) + 1 * (r.val % 2000) = r.val; omega)
  | ⟨1, _⟩ => exact Fin.ext (by show 0 + 1 * i.val = i.val; omega)

end

/-- The two arrays are one. -/
theorem outArr_eq_refArr (W1 : S128x128.Idx → E) (b1 : S128.Idx → E) (W2 : S64x128.Idx → E) (b2 : S64.Idx → E) (X : S100000x128.Idx → E) :
    outArr (F := Ideal) W1 (kb1 b1) W2 (kb2 b2) X = refArr W1 b1 W2 b2 X := by
  funext j
  idx_vars j
  exact (outArr_apply W1 b1 W2 b2 X j0 j1).trans (refArr_apply W1 b1 W2 b2 X j0 j1).symm

variable (m : (ℓ : Loc nD τ sig) → Buf (Elt Ideal) ℓ)

/-- The two host reshapes put the biases into row vectors. -/
theorem V_main_v0 (c : Dev nD) : V m c main_v0 = shapeCast S1x128 (m ((c : Thread nD τ).loc main_arg3)) shapeCasts_S128_S1x128 := by
  unfold V hostOps0
  after_results
  rfl
theorem V_main_v1 (c : Dev nD) : V m c main_v1 = shapeCast S1x64 (m ((c : Thread nD τ).loc main_arg5)) shapeCasts_S64_S1x64 := by
  unfold V hostOps0
  after_results
  rfl

/-- What the kernel leaves in its output array is the reference's array of the arguments. -/
theorem resOf_eq (c : Dev nD) : resOf m c
    = refArr (m ((c : Thread nD τ).loc main_arg2)) (m ((c : Thread nD τ).loc main_arg3)) (m ((c : Thread nD τ).loc main_arg4))
        (m ((c : Thread nD τ).loc main_arg5)) (m ((c : Thread nD τ).loc main_arg1)) := by
  unfold resOf
  rw [V_main_v0, V_main_v1, V_main_arg1, V_main_arg2, V_main_arg4]
  exact outArr_eq_refArr _ _ _ _ _

end Cert.Mlp

end
-- ==== Proof.lean ====
/-
  The five claims, assembled. `Proof/Run.lean` has the kernel's one run, at floats of any kind: read at the
  machine's floats it is the kernel's frame, at the ideal ones the idealization's. The reference is a line of
  array operations; its run is the generated one. `Proof/Value.lean` has the equation of the two arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value

@[expose] public section

noncomputable section

namespace Cert.Proof

open Idealize.ShloMosaic Idealize.ShloMosaic.TcCoe Idealize.SL.Sem Cert.Mlp

/-- The kernel's text is its idealization's, label by label. -/
theorem defs₀_eq : Cert.Kernel.defs₀ (F := Bits) = Cert.KernelIdeal.defs₀ (F := Bits) := by
  unfold Cert.Kernel.defs₀ Cert.KernelIdeal.defs₀
  congr 1
  funext l
  match l with
  | 0 => funext x; rfl

theorem defs_eq : Cert.Kernel.defs (F := Bits) = Cert.KernelIdeal.defs (F := Bits) :=
  congrArg (Pipeline.defs (Cert.KernelIdeal.pcfgs (F := Bits))) defs₀_eq

/-- The kernel at the machine's floats: the one run. -/
theorem frame_kernel : Cert.quiescent_Kernel := by
  intro m ρ _
  rw [defs_eq]
  exact (θ_run Cert.KernelIdeal.defs _ _).mono (fun _ h => ⟨fun c => (h.1 c).2, h.2⟩) (run_main (F := Bits) m ρ)

/-- The kernel at the ideal floats: the same run. -/
theorem frame_ideal : Cert.quiescent_KernelIdeal := fun m ρ _ =>
  (θ_run Cert.KernelIdeal.defs _ _).mono (fun _ h => ⟨fun c => (h.1 c).2, h.2⟩) (run_main (F := Ideal) m ρ)

/-- The reference declares no semaphore, so its counters are the zero function whatever it does. -/
theorem frame_reference : Cert.quiescent_ReferenceIdeal := fun m ρ _ =>
  (θ_run Cert.ReferenceIdeal.defs _ _).mono
    (fun _ h => ⟨fun c => (h c).2, sem_eq_zero_of_no_sems (by decide) _⟩)
    (Cert.ReferenceIdeal.Value.run (F := Ideal) m ρ)

/-- Kernel and reference end with the same array. -/
theorem equal : Cert.algebraic_KernelIdeal_ReferenceIdeal := fun m g m' g' _ hargs =>
  ⟨fun c => resOf m c,
    (θ_run Cert.KernelIdeal.defs _ _).mono (fun _ h => h.1) (run_main (F := Ideal) m g),
    (θ_run Cert.ReferenceIdeal.defs _ _).mono (fun _ h c => ⟨(h c).1.trans (by
      obtain ⟨_, h1, h2, h3, h4, h5⟩ := hargs c
      exact (refArr_congr _ _ _ _ h1 h2 h3 h4 h5).trans (resOf_eq m c).symm), (h c).2⟩)
      (Cert.ReferenceIdeal.Value.run (F := Ideal) m' g')⟩

theorem claim : Cert.Claim :=
  ⟨Cert.Kernel.Gen.facts, Cert.KernelIdeal.Gen.facts, Cert.ReferenceIdeal.Gen.facts,
    frame_kernel, frame_ideal, frame_reference, trivial, equal⟩

end Cert.Proof

end
